-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x64x64x2 : Shape := ⟨4, ![4096, 64, 64, 2]⟩
abbrev S_ : Shape := ⟨0, ![]⟩

class Facts : Prop where
  bcast_S_S4096x64x64x2 : S_.BroadcastsInDim S4096x64x64x2 (![] : Fin 0 → Fin S4096x64x64x2.rank)
  reducesTo_S4096x64x64x2_S_d0_1_2_3 : S4096x64x64x2.ReducesTo [0, 1, 2, 3] S_
  h_S_ : 0 < S_.numel

variable [Facts]

def fn {F : FTy → Type} [FloatOps F] (main_arg0 : IVec S4096x64x64x2 32) : IVec S_ 1 :=
  let main_c : IVec S_ 32 := constantI S_ 32 0#32
  let main_v0 : IVec S4096x64x64x2 32 := broadcastInDim S4096x64x64x2 ![] bcast_S_S4096x64x64x2 main_c
  let main_v1 : IVec S4096x64x64x2 1 := cmpi .sge main_arg0 main_v0
  let main_c_0 : IVec S_ 32 := constantI S_ 32 8#32
  let main_v2 : IVec S4096x64x64x2 32 := broadcastInDim S4096x64x64x2 ![] bcast_S_S4096x64x64x2 main_c_0
  let main_v3 : IVec S4096x64x64x2 1 := cmpi .slt main_arg0 main_v2
  let main_v4 : IVec S4096x64x64x2 1 := andi main_v1 main_v3
  let main_c_1 : IVec S_ 1 := constantI S_ 1 1#1
  let main_v5 : IVec S_ 1 := (fun x v => Host.reduce IntOp.andi x v reducesTo_S4096x64x64x2_S_d0_1_2_3 h_S_) main_v4 main_c_1
  main_v5
-- ==== Kernel.lean ====
abbrev S4096x64x64x2 : Shape := ⟨4, ![4096, 64, 64, 2]⟩
abbrev S64x64x2x4096 : Shape := ⟨4, ![64, 64, 2, 4096]⟩
abbrev S64x64x2x32x128 : Shape := ⟨5, ![64, 64, 2, 32, 128]⟩
abbrev S64x64x32x2x128 : Shape := ⟨5, ![64, 64, 32, 2, 128]⟩
abbrev S4096x32x2x128 : Shape := ⟨4, ![4096, 32, 2, 128]⟩
abbrev S4096x128 : Shape := ⟨2, ![4096, 128]⟩
abbrev S256x128 : Shape := ⟨2, ![256, 128]⟩
abbrev S128x128 : Shape := ⟨2, ![128, 128]⟩
abbrev S2 : Shape := ⟨1, ![2]⟩
abbrev S16 : Shape := ⟨1, ![16]⟩
abbrev S1x16 : Shape := ⟨2, ![1, 16]⟩
abbrev S128x2x128 : Shape := ⟨3, ![128, 2, 128]⟩
abbrev S128x1x2x128 : Shape := ⟨4, ![128, 1, 2, 128]⟩
abbrev S1 : Shape := ⟨1, ![1]⟩
abbrev S_ : Shape := ⟨0, ![]⟩

abbrev nBuf : Table → Nat
  | .hbm => 6
  | .local .scVector .vmem => 3
  | _ => 0

abbrev bufTy : (tb : Table) → Fin (nBuf tb) → BufTy
  | .hbm, ⟨0, _⟩ => ⟨S4096x64x64x2, .i32⟩
  | .hbm, ⟨1, _⟩ => ⟨S64x64x2x4096, .i32⟩
  | .hbm, ⟨2, _⟩ => ⟨S64x64x2x32x128, .i32⟩
  | .hbm, ⟨3, _⟩ => ⟨S64x64x32x2x128, .i32⟩
  | .hbm, ⟨4, _⟩ => ⟨S4096x32x2x128, .i32⟩
  | .hbm, ⟨5, _⟩ => ⟨S4096x128, .i32⟩
  | .local .scVector .vmem, ⟨0, _⟩ => ⟨S256x128, .i32⟩
  | .local .scVector .vmem, ⟨1, _⟩ => ⟨S256x128, .i32⟩
  | .local .scVector .vmem, ⟨2, _⟩ => ⟨S128x128, .i32⟩
  | _, _ => ⟨S4096x64x64x2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v3_scv : Ref sig .scVector := ⟨.hbm, 4, rfl⟩
abbrev main_v4_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let c0_i32_1924 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1925 : BitVec 32 := 0#32
  let c0_i32_1926 : BitVec 32 := 0#32
  ![0, v1.toNat, 0, 0]
def k0_off2 (i : grid0.Coords) : Fin 4 → Nat :=
  let c128_i32 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1931 : BitVec 32 := 0#32
  let c0_i32_1932 : BitVec 32 := 0#32
  ![128, v1.toNat, 0, 0]
@[reducible] def k0_t1_loop : Scf.Loop 32 :=
  let c0_i32_1937 : BitVec 32 := 0#32
  let c16_i32_1938 : BitVec 32 := 16#32
  let v2085 : BitVec 32 := Scalar.addi c0_i32_1937 c16_i32_1938
  let c1_i32_1939 : BitVec 32 := 1#32
  ⟨c0_i32_1937, v2085, c1_i32_1939⟩
def k0_off3 (i : grid0.Coords) (k0_t1 : Fin k0_t1_loop.trips) : Fin 4 → Nat :=
  let c0_i32_1937 : BitVec 32 := 0#32
  let c1_i32_1939 : BitVec 32 := 1#32
  let arg8 : BitVec 32 := Scf.iv c0_i32_1937 c1_i32_1939 k0_t1
  let c2_i32_1942 : BitVec 32 := 2#32
  let v2088 : BitVec 32 := Scalar.muli arg8 c2_i32_1942
  let c0_i32_1943 : BitVec 32 := 0#32
  let v2089 : BitVec 32 := Scalar.addi v2088 c0_i32_1943
  let c128_i32_1944 : BitVec 32 := 128#32
  let v2090 : BitVec 32 := Scalar.muli v2089 c128_i32_1944
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1946 : BitVec 32 := 0#32
  let c0_i32_1947 : BitVec 32 := 0#32
  ![v2090.toNat, v1.toNat, 0, 0]
@[reducible] def k0_t2_loop : Scf.Loop 32 :=
  let c0_i32_1950 : BitVec 32 := 0#32
  let c128_i32_1951 : BitVec 32 := 128#32
  let v2099 : BitVec 32 := Scalar.addi c0_i32_1950 c128_i32_1951
  let c1_i32_1952 : BitVec 32 := 1#32
  ⟨c0_i32_1950, v2099, c1_i32_1952⟩
def k0_off4 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2123 : Index := Scalar.indexCast v2122
  let c0_1976 : Index := 0#32
  ![v2123.toNat, 0]
def k0_off5 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1977 : BitVec 32 := 1#32
  let v2125 : BitVec 32 := Scalar.addi v2122 c1_i32_1977
  let v2126 : Index := Scalar.indexCast v2125
  let c0_1978 : Index := 0#32
  ![v2126.toNat, 0]

def k0_chk1 (v6 : IVec S16 32) (v2130 : IVec S16 32) : Prop :=
  (∀ a x, ((![v6, v2130] : Fin 2 → IVec S16 32) a x).toNat < S128x128.size a)
theorem k0_idx1_inb : ∀ (v6 : IVec S16 32) (v2130 : IVec S16 32) (k0_hw1 : k0_chk1 v6 v2130), ∀ a x, ((![v6, v2130] : Fin 2 → IVec S16 32) a x).toNat < S128x128.size a := fun v6 v2130 k0_hw1 => k0_hw1
def k0_off6 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2131 : Index := Scalar.indexCast v2122
  let c16_1980 : Index := 16#32
  ![v2131.toNat, 16]
def k0_off7 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1981 : BitVec 32 := 1#32
  let v2133 : BitVec 32 := Scalar.addi v2122 c1_i32_1981
  let v2134 : Index := Scalar.indexCast v2133
  let c16_1982 : Index := 16#32
  ![v2134.toNat, 16]

def k0_chk2 (v8 : IVec S16 32) (v2138 : IVec S16 32) : Prop :=
  (∀ a x, ((![v8, v2138] : Fin 2 → IVec S16 32) a x).toNat < S128x128.size a)
theorem k0_idx2_inb : ∀ (v8 : IVec S16 32) (v2138 : IVec S16 32) (k0_hw2 : k0_chk2 v8 v2138), ∀ a x, ((![v8, v2138] : Fin 2 → IVec S16 32) a x).toNat < S128x128.size a := fun v8 v2138 k0_hw2 => k0_hw2
def k0_off8 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2139 : Index := Scalar.indexCast v2122
  let c32_1984 : Index := 32#32
  ![v2139.toNat, 32]
def k0_off9 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1985 : BitVec 32 := 1#32
  let v2141 : BitVec 32 := Scalar.addi v2122 c1_i32_1985
  let v2142 : Index := Scalar.indexCast v2141
  let c32_1986 : Index := 32#32
  ![v2142.toNat, 32]

def k0_chk3 (v10 : IVec S16 32) (v2146 : IVec S16 32) : Prop :=
  (∀ a x, ((![v10, v2146] : Fin 2 → IVec S16 32) a x).toNat < S128x128.size a)
theorem k0_idx3_inb : ∀ (v10 : IVec S16 32) (v2146 : IVec S16 32) (k0_hw3 : k0_chk3 v10 v2146), ∀ a x, ((![v10, v2146] : Fin 2 → IVec S16 32) a x).toNat < S128x128.size a := fun v10 v2146 k0_hw3 => k0_hw3
def k0_off10 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2147 : Index := Scalar.indexCast v2122
  let c48_1988 : Index := 48#32
  ![v2147.toNat, 48]
def k0_off11 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1989 : BitVec 32 := 1#32
  let v2149 : BitVec 32 := Scalar.addi v2122 c1_i32_1989
  let v2150 : Index := Scalar.indexCast v2149
  let c48_1990 : Index := 48#32
  ![v2150.toNat, 48]

def k0_chk4 (v12 : IVec S16 32) (v2154 : IVec S16 32) : Prop :=
  (∀ a x, ((![v12, v2154] : Fin 2 → IVec S16 32) a x).toNat < S128x128.size a)
theorem k0_idx4_inb : ∀ (v12 : IVec S16 32) (v2154 : IVec S16 32) (k0_hw4 : k0_chk4 v12 v2154), ∀ a x, ((![v12, v2154] : Fin 2 → IVec S16 32) a x).toNat < S128x128.size a := fun v12 v2154 k0_hw4 => k0_hw4
def k0_off12 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2155 : Index := Scalar.indexCast v2122
  let c64_1992 : Index := 64#32
  ![v2155.toNat, 64]
def k0_off13 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1993 : BitVec 32 := 1#32
  let v2157 : BitVec 32 := Scalar.addi v2122 c1_i32_1993
  let v2158 : Index := Scalar.indexCast v2157
  let c64_1994 : Index := 64#32
  ![v2158.toNat, 64]

def k0_chk5 (v14 : IVec S16 32) (v2162 : IVec S16 32) : Prop :=
  (∀ a x, ((![v14, v2162] : Fin 2 → IVec S16 32) a x).toNat < S128x128.size a)
theorem k0_idx5_inb : ∀ (v14 : IVec S16 32) (v2162 : IVec S16 32) (k0_hw5 : k0_chk5 v14 v2162), ∀ a x, ((![v14, v2162] : Fin 2 → IVec S16 32) a x).toNat < S128x128.size a := fun v14 v2162 k0_hw5 => k0_hw5
def k0_off14 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2163 : Index := Scalar.indexCast v2122
  let c80_1996 : Index := 80#32
  ![v2163.toNat, 80]
def k0_off15 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1997 : BitVec 32 := 1#32
  let v2165 : BitVec 32 := Scalar.addi v2122 c1_i32_1997
  let v2166 : Index := Scalar.indexCast v2165
  let c80_1998 : Index := 80#32
  ![v2166.toNat, 80]

def k0_chk6 (v16 : IVec S16 32) (v2170 : IVec S16 32) : Prop :=
  (∀ a x, ((![v16, v2170] : Fin 2 → IVec S16 32) a x).toNat < S128x128.size a)
theorem k0_idx6_inb : ∀ (v16 : IVec S16 32) (v2170 : IVec S16 32) (k0_hw6 : k0_chk6 v16 v2170), ∀ a x, ((![v16, v2170] : Fin 2 → IVec S16 32) a x).toNat < S128x128.size a := fun v16 v2170 k0_hw6 => k0_hw6
def k0_off16 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2171 : Index := Scalar.indexCast v2122
  let c96_2000 : Index := 96#32
  ![v2171.toNat, 96]
def k0_off17 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_2001 : BitVec 32 := 1#32
  let v2173 : BitVec 32 := Scalar.addi v2122 c1_i32_2001
  let v2174 : Index := Scalar.indexCast v2173
  let c96_2002 : Index := 96#32
  ![v2174.toNat, 96]

def k0_chk7 (v18 : IVec S16 32) (v2178 : IVec S16 32) : Prop :=
  (∀ a x, ((![v18, v2178] : Fin 2 → IVec S16 32) a x).toNat < S128x128.size a)
theorem k0_idx7_inb : ∀ (v18 : IVec S16 32) (v2178 : IVec S16 32) (k0_hw7 : k0_chk7 v18 v2178), ∀ a x, ((![v18, v2178] : Fin 2 → IVec S16 32) a x).toNat < S128x128.size a := fun v18 v2178 k0_hw7 => k0_hw7
def k0_off18 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2179 : Index := Scalar.indexCast v2122
  let c112_2004 : Index := 112#32
  ![v2179.toNat, 112]
def k0_off19 (k0_t2 : Fin k0_t2_loop.trips) : Fin 2 → Nat :=
  let c0_i32_1974 : BitVec 32 := 0#32
  let c0_i32_1950 : BitVec 32 := 0#32
  let c1_i32_1952 : BitVec 32 := 1#32
  let arg10 : BitVec 32 := Scf.iv c0_i32_1950 c1_i32_1952 k0_t2
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_2005 : BitVec 32 := 1#32
  let v2181 : BitVec 32 := Scalar.addi v2122 c1_i32_2005
  let v2182 : Index := Scalar.indexCast v2181
  let c112_2006 : Index := 112#32
  ![v2182.toNat, 112]

def k0_chk8 (v20 : IVec S16 32) (v2186 : IVec S16 32) : Prop :=
  (∀ a x, ((![v20, v2186] : Fin 2 → IVec S16 32) a x).toNat < S128x128.size a)
theorem k0_idx8_inb : ∀ (v20 : IVec S16 32) (v2186 : IVec S16 32) (k0_hw8 : k0_chk8 v20 v2186), ∀ a x, ((![v20, v2186] : Fin 2 → IVec S16 32) a x).toNat < S128x128.size a := fun v20 v2186 k0_hw8 => k0_hw8
def k0_cond1 (k0_t1 : Fin k0_t1_loop.trips) : BitVec 1 :=
  let c0_i32_1937 : BitVec 32 := 0#32
  let c1_i32_1939 : BitVec 32 := 1#32
  let arg8 : BitVec 32 := Scf.iv c0_i32_1937 c1_i32_1939 k0_t1
  let c2_i32_1942 : BitVec 32 := 2#32
  let v2088 : BitVec 32 := Scalar.muli arg8 c2_i32_1942
  let c0_i32_1943 : BitVec 32 := 0#32
  let v2089 : BitVec 32 := Scalar.addi v2088 c0_i32_1943
  let c2_i32_1954 : BitVec 32 := 2#32
  let v2100 : BitVec 32 := Scalar.addi v2089 c2_i32_1954
  let c32_i32_1955 : BitVec 32 := 32#32
  let v2101 : BitVec 1 := Scalar.cmpi .slt v2100 c32_i32_1955
  let v2102 : BitVec 32 := Scalar.extui v2101
  let c0_i32_1956 : BitVec 32 := 0#32
  let v2103 : BitVec 1 := Scalar.cmpi .ne v2102 c0_i32_1956
  v2103

def k0_off20 (i : grid0.Coords) (k0_t1 : Fin k0_t1_loop.trips) : Fin 4 → Nat :=
  let c0_i32_1937 : BitVec 32 := 0#32
  let c1_i32_1939 : BitVec 32 := 1#32
  let arg8 : BitVec 32 := Scf.iv c0_i32_1937 c1_i32_1939 k0_t1
  let c2_i32_1942 : BitVec 32 := 2#32
  let v2088 : BitVec 32 := Scalar.muli arg8 c2_i32_1942
  let c0_i32_1943 : BitVec 32 := 0#32
  let v2089 : BitVec 32 := Scalar.addi v2088 c0_i32_1943
  let c128_i32_1944 : BitVec 32 := 128#32
  let v2090 : BitVec 32 := Scalar.muli v2089 c128_i32_1944
  let c256_i32 : BitVec 32 := 256#32
  let v2120 : BitVec 32 := Scalar.addi v2090 c256_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1974 : BitVec 32 := 0#32
  let c0_i32_1975 : BitVec 32 := 0#32
  ![v2120.toNat, v1.toNat, 0, 0]
def k0_off21 (i : grid0.Coords) (k0_t1 : Fin k0_t1_loop.trips) : Fin 4 → Nat :=
  let c0_i32_1937 : BitVec 32 := 0#32
  let c1_i32_1939 : BitVec 32 := 1#32
  let arg8 : BitVec 32 := Scf.iv c0_i32_1937 c1_i32_1939 k0_t1
  let c2_i32_1957 : BitVec 32 := 2#32
  let v2104 : BitVec 32 := Scalar.muli arg8 c2_i32_1957
  let c1_i32_1958 : BitVec 32 := 1#32
  let v2105 : BitVec 32 := Scalar.addi v2104 c1_i32_1958
  let c128_i32_1959 : BitVec 32 := 128#32
  let v2106 : BitVec 32 := Scalar.muli v2105 c128_i32_1959
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1961 : BitVec 32 := 0#32
  let c0_i32_1962 : BitVec 32 := 0#32
  ![v2106.toNat, v1.toNat, 0, 0]
@[reducible] def k0_t3_loop : Scf.Loop 32 :=
  let c0_i32_1965 : BitVec 32 := 0#32
  let c128_i32_1966 : BitVec 32 := 128#32
  let v2115 : BitVec 32 := Scalar.addi c0_i32_1965 c128_i32_1966
  let c1_i32_1967 : BitVec 32 := 1#32
  ⟨c0_i32_1965, v2115, c1_i32_1967⟩
def k0_off22 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2123 : Index := Scalar.indexCast v2122
  let c0_1976 : Index := 0#32
  ![v2123.toNat, 0]
def k0_off23 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1977 : BitVec 32 := 1#32
  let v2125 : BitVec 32 := Scalar.addi v2122 c1_i32_1977
  let v2126 : Index := Scalar.indexCast v2125
  let c0_1978 : Index := 0#32
  ![v2126.toNat, 0]

def k0_chk9 (v6 : IVec S16 32) (v2130 : IVec S16 32) : Prop :=
  (∀ a x, ((![v6, v2130] : Fin 2 → IVec S16 32) a x).toNat < S128x128.size a)
theorem k0_idx9_inb : ∀ (v6 : IVec S16 32) (v2130 : IVec S16 32) (k0_hw9 : k0_chk9 v6 v2130), ∀ a x, ((![v6, v2130] : Fin 2 → IVec S16 32) a x).toNat < S128x128.size a := fun v6 v2130 k0_hw9 => k0_hw9
def k0_off24 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2131 : Index := Scalar.indexCast v2122
  let c16_1980 : Index := 16#32
  ![v2131.toNat, 16]
def k0_off25 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1981 : BitVec 32 := 1#32
  let v2133 : BitVec 32 := Scalar.addi v2122 c1_i32_1981
  let v2134 : Index := Scalar.indexCast v2133
  let c16_1982 : Index := 16#32
  ![v2134.toNat, 16]

def k0_chk10 (v8 : IVec S16 32) (v2138 : IVec S16 32) : Prop :=
  (∀ a x, ((![v8, v2138] : Fin 2 → IVec S16 32) a x).toNat < S128x128.size a)
theorem k0_idx10_inb : ∀ (v8 : IVec S16 32) (v2138 : IVec S16 32) (k0_hw10 : k0_chk10 v8 v2138), ∀ a x, ((![v8, v2138] : Fin 2 → IVec S16 32) a x).toNat < S128x128.size a := fun v8 v2138 k0_hw10 => k0_hw10
def k0_off26 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2139 : Index := Scalar.indexCast v2122
  let c32_1984 : Index := 32#32
  ![v2139.toNat, 32]
def k0_off27 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1985 : BitVec 32 := 1#32
  let v2141 : BitVec 32 := Scalar.addi v2122 c1_i32_1985
  let v2142 : Index := Scalar.indexCast v2141
  let c32_1986 : Index := 32#32
  ![v2142.toNat, 32]

def k0_chk11 (v10 : IVec S16 32) (v2146 : IVec S16 32) : Prop :=
  (∀ a x, ((![v10, v2146] : Fin 2 → IVec S16 32) a x).toNat < S128x128.size a)
theorem k0_idx11_inb : ∀ (v10 : IVec S16 32) (v2146 : IVec S16 32) (k0_hw11 : k0_chk11 v10 v2146), ∀ a x, ((![v10, v2146] : Fin 2 → IVec S16 32) a x).toNat < S128x128.size a := fun v10 v2146 k0_hw11 => k0_hw11
def k0_off28 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2147 : Index := Scalar.indexCast v2122
  let c48_1988 : Index := 48#32
  ![v2147.toNat, 48]
def k0_off29 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1989 : BitVec 32 := 1#32
  let v2149 : BitVec 32 := Scalar.addi v2122 c1_i32_1989
  let v2150 : Index := Scalar.indexCast v2149
  let c48_1990 : Index := 48#32
  ![v2150.toNat, 48]

def k0_chk12 (v12 : IVec S16 32) (v2154 : IVec S16 32) : Prop :=
  (∀ a x, ((![v12, v2154] : Fin 2 → IVec S16 32) a x).toNat < S128x128.size a)
theorem k0_idx12_inb : ∀ (v12 : IVec S16 32) (v2154 : IVec S16 32) (k0_hw12 : k0_chk12 v12 v2154), ∀ a x, ((![v12, v2154] : Fin 2 → IVec S16 32) a x).toNat < S128x128.size a := fun v12 v2154 k0_hw12 => k0_hw12
def k0_off30 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2155 : Index := Scalar.indexCast v2122
  let c64_1992 : Index := 64#32
  ![v2155.toNat, 64]
def k0_off31 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1993 : BitVec 32 := 1#32
  let v2157 : BitVec 32 := Scalar.addi v2122 c1_i32_1993
  let v2158 : Index := Scalar.indexCast v2157
  let c64_1994 : Index := 64#32
  ![v2158.toNat, 64]

def k0_chk13 (v14 : IVec S16 32) (v2162 : IVec S16 32) : Prop :=
  (∀ a x, ((![v14, v2162] : Fin 2 → IVec S16 32) a x).toNat < S128x128.size a)
theorem k0_idx13_inb : ∀ (v14 : IVec S16 32) (v2162 : IVec S16 32) (k0_hw13 : k0_chk13 v14 v2162), ∀ a x, ((![v14, v2162] : Fin 2 → IVec S16 32) a x).toNat < S128x128.size a := fun v14 v2162 k0_hw13 => k0_hw13
def k0_off32 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2163 : Index := Scalar.indexCast v2122
  let c80_1996 : Index := 80#32
  ![v2163.toNat, 80]
def k0_off33 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_1997 : BitVec 32 := 1#32
  let v2165 : BitVec 32 := Scalar.addi v2122 c1_i32_1997
  let v2166 : Index := Scalar.indexCast v2165
  let c80_1998 : Index := 80#32
  ![v2166.toNat, 80]

def k0_chk14 (v16 : IVec S16 32) (v2170 : IVec S16 32) : Prop :=
  (∀ a x, ((![v16, v2170] : Fin 2 → IVec S16 32) a x).toNat < S128x128.size a)
theorem k0_idx14_inb : ∀ (v16 : IVec S16 32) (v2170 : IVec S16 32) (k0_hw14 : k0_chk14 v16 v2170), ∀ a x, ((![v16, v2170] : Fin 2 → IVec S16 32) a x).toNat < S128x128.size a := fun v16 v2170 k0_hw14 => k0_hw14
def k0_off34 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2171 : Index := Scalar.indexCast v2122
  let c96_2000 : Index := 96#32
  ![v2171.toNat, 96]
def k0_off35 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_2001 : BitVec 32 := 1#32
  let v2173 : BitVec 32 := Scalar.addi v2122 c1_i32_2001
  let v2174 : Index := Scalar.indexCast v2173
  let c96_2002 : Index := 96#32
  ![v2174.toNat, 96]

def k0_chk15 (v18 : IVec S16 32) (v2178 : IVec S16 32) : Prop :=
  (∀ a x, ((![v18, v2178] : Fin 2 → IVec S16 32) a x).toNat < S128x128.size a)
theorem k0_idx15_inb : ∀ (v18 : IVec S16 32) (v2178 : IVec S16 32) (k0_hw15 : k0_chk15 v18 v2178), ∀ a x, ((![v18, v2178] : Fin 2 → IVec S16 32) a x).toNat < S128x128.size a := fun v18 v2178 k0_hw15 => k0_hw15
def k0_off36 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let v2179 : Index := Scalar.indexCast v2122
  let c112_2004 : Index := 112#32
  ![v2179.toNat, 112]
def k0_off37 (k0_t3 : Fin k0_t3_loop.trips) : Fin 2 → Nat :=
  let c0_i32_1974 : BitVec 32 := 0#32
  let c0_i32_1965 : BitVec 32 := 0#32
  let c1_i32_1967 : BitVec 32 := 1#32
  let arg10 : BitVec 32 := Scf.iv c0_i32_1965 c1_i32_1967 k0_t3
  let c1_i32_1973 : BitVec 32 := 1#32
  let v2120 : BitVec 32 := Scalar.muli arg10 c1_i32_1973
  let v2121 : BitVec 32 := Scalar.addi c0_i32_1974 v2120
  let c2_i32_1975 : BitVec 32 := 2#32
  let v2122 : BitVec 32 := Scalar.muli v2121 c2_i32_1975
  let c1_i32_2005 : BitVec 32 := 1#32
  let v2181 : BitVec 32 := Scalar.addi v2122 c1_i32_2005
  let v2182 : Index := Scalar.indexCast v2181
  let c112_2006 : Index := 112#32
  ![v2182.toNat, 112]

def k0_chk16 (v20 : IVec S16 32) (v2186 : IVec S16 32) : Prop :=
  (∀ a x, ((![v20, v2186] : Fin 2 → IVec S16 32) a x).toNat < S128x128.size a)
theorem k0_idx16_inb : ∀ (v20 : IVec S16 32) (v2186 : IVec S16 32) (k0_hw16 : k0_chk16 v20 v2186), ∀ a x, ((![v20, v2186] : Fin 2 → IVec S16 32) a x).toNat < S128x128.size a := fun v20 v2186 k0_hw16 => k0_hw16
def k0_cond2 (k0_t1 : Fin k0_t1_loop.trips) : BitVec 1 :=
  let c0_i32_1937 : BitVec 32 := 0#32
  let c1_i32_1939 : BitVec 32 := 1#32
  let arg8 : BitVec 32 := Scf.iv c0_i32_1937 c1_i32_1939 k0_t1
  let c2_i32_1957 : BitVec 32 := 2#32
  let v2104 : BitVec 32 := Scalar.muli arg8 c2_i32_1957
  let c1_i32_1958 : BitVec 32 := 1#32
  let v2105 : BitVec 32 := Scalar.addi v2104 c1_i32_1958
  let c2_i32_1969 : BitVec 32 := 2#32
  let v2116 : BitVec 32 := Scalar.addi v2105 c2_i32_1969
  let c32_i32_1970 : BitVec 32 := 32#32
  let v2117 : BitVec 1 := Scalar.cmpi .slt v2116 c32_i32_1970
  let v2118 : BitVec 32 := Scalar.extui v2117
  let c0_i32_1971 : BitVec 32 := 0#32
  let v2119 : BitVec 1 := Scalar.cmpi .ne v2118 c0_i32_1971
  v2119

def k0_off38 (i : grid0.Coords) (k0_t1 : Fin k0_t1_loop.trips) : Fin 4 → Nat :=
  let c0_i32_1937 : BitVec 32 := 0#32
  let c1_i32_1939 : BitVec 32 := 1#32
  let arg8 : BitVec 32 := Scf.iv c0_i32_1937 c1_i32_1939 k0_t1
  let c2_i32_1957 : BitVec 32 := 2#32
  let v2104 : BitVec 32 := Scalar.muli arg8 c2_i32_1957
  let c1_i32_1958 : BitVec 32 := 1#32
  let v2105 : BitVec 32 := Scalar.addi v2104 c1_i32_1958
  let c128_i32_1959 : BitVec 32 := 128#32
  let v2106 : BitVec 32 := Scalar.muli v2105 c128_i32_1959
  let c256_i32 : BitVec 32 := 256#32
  let v2120 : BitVec 32 := Scalar.addi v2106 c256_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1974 : BitVec 32 := 0#32
  let c0_i32_1975 : BitVec 32 := 0#32
  ![v2120.toNat, v1.toNat, 0, 0]
def k0_off39 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_1941 : BitVec 32 := 128#32
  let v2087 : BitVec 32 := Scalar.muli v1 c128_i32_1941
  let c0_i32_1942_r0 : BitVec 32 := 0#32
  ![v2087.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x64x64x2 : Shape := ⟨4, ![4096, 64, 64, 2]⟩
abbrev S4096x64x64x1 : Shape := ⟨4, ![4096, 64, 64, 1]⟩
abbrev S4096x64x64 : Shape := ⟨3, ![4096, 64, 64]⟩
abbrev S_ : Shape := ⟨0, ![]⟩
abbrev S4096x4096 : Shape := ⟨2, ![4096, 4096]⟩
abbrev S4096x4096x1 : Shape := ⟨3, ![4096, 4096, 1]⟩
abbrev S128 : Shape := ⟨1, ![128]⟩
abbrev S1x1x128 : Shape := ⟨3, ![1, 1, 128]⟩
abbrev S4096x4096x128 : Shape := ⟨3, ![4096, 4096, 128]⟩
abbrev S4096x128 : Shape := ⟨2, ![4096, 128]⟩

abbrev nBuf : Space → Nat
  | .hbm => 19
  | .vmem => 0
  | .smem => 0
  | _ => 0

abbrev bufTy : (tb : Table) → Fin (tcTables nBuf tb) → BufTy
  | .hbm, ⟨0, _⟩ => ⟨S4096x64x64x2, .i32⟩
  | .hbm, ⟨1, _⟩ => ⟨S4096x64x64x1, .i32⟩
  | .hbm, ⟨2, _⟩ => ⟨S4096x64x64, .i32⟩
  | .hbm, ⟨3, _⟩ => ⟨S_, .i32⟩
  | .hbm, ⟨4, _⟩ => ⟨S4096x64x64, .i32⟩
  | .hbm, ⟨5, _⟩ => ⟨S4096x64x64, .i32⟩
  | .hbm, ⟨6, _⟩ => ⟨S4096x64x64x1, .i32⟩
  | .hbm, ⟨7, _⟩ => ⟨S4096x64x64, .i32⟩
  | .hbm, ⟨8, _⟩ => ⟨S4096x64x64, .i32⟩
  | .hbm, ⟨9, _⟩ => ⟨S4096x4096, .i32⟩
  | .hbm, ⟨10, _⟩ => ⟨S4096x4096x1, .i32⟩
  | .hbm, ⟨11, _⟩ => ⟨S128, .i32⟩
  | .hbm, ⟨12, _⟩ => ⟨S1x1x128, .i32⟩
  | .hbm, ⟨13, _⟩ => ⟨S4096x4096x128, .i32⟩
  | .hbm, ⟨14, _⟩ => ⟨S4096x4096x128, .i32⟩
  | .hbm, ⟨15, _⟩ => ⟨S4096x4096x128, .i1⟩
  | .hbm, ⟨16, _⟩ => ⟨S4096x4096x128, .i32⟩
  | .hbm, ⟨17, _⟩ => ⟨S_, .i32⟩
  | .hbm, ⟨18, _⟩ => ⟨S4096x128, .i32⟩
  | _, _ => ⟨S4096x64x64x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Proof.Count.lean ====
/-
  The mathematics of the histogram. A tile reads, for each of its 128 samples `s` and each of 4096 cells `k`, the pair
  (type, colour) of the cell, and adds one to the counter of sample `s` at `8 * type + colour`. `hits` is how many of the
  first `n` cells carry a given number; `hist` is the whole table of counters part way through a cell.
-/
module

public import Idealize.ShloMosaic.Lib.ValueIdxCore
public import Idealize.ShloMosaic.PureOps

@[expose] public section

namespace Cert.Proof.Hist

open Idealize.ShloMosaic Idealize.ShloMosaic.ValueIdx

/-- The array the tiles read: cell, tile, field (0 the type, 1 the colour), sample. -/
abbrev Cells : Type := (⟨4, ![4096, 32, 2, 128]⟩ : Shape).Idx → BitVec 32

/-- The number of cell `k` of sample `s` of tile `w`. -/
def idOf (G : Cells) (w : Fin 32) (s : Fin 128) (k : Fin 4096) : ℕ :=
  8 * (G (ix4 k w 0 s)).toNat + (G (ix4 k w 1 s)).toNat

/-- How many of the first `n` cells of sample `s` of tile `w` carry the number `v`. -/
def hits (G : Cells) (w : Fin 32) (n : ℕ) (s : Fin 128) (v : ℕ) : ℕ :=
  (Finset.univ.filter fun k : Fin 4096 => k.val < n ∧ idOf G w s k = v).card

theorem hits_zero (G : Cells) (w : Fin 32) (s : Fin 128) (v : ℕ) : hits G w 0 s v = 0 :=
  Finset.card_eq_zero.mpr (Finset.filter_eq_empty_iff.mpr fun _ _ h => absurd h.1 (Nat.not_lt_zero _))

/-- One more cell adds one to the counter of its number. -/
theorem hits_succ (G : Cells) (w : Fin 32) (k : Fin 4096) (s : Fin 128) (v : ℕ) :
    hits G w (k.val + 1) s v = hits G w k.val s v + if idOf G w s k = v then 1 else 0 := by
  unfold hits
  by_cases h : idOf G w s k = v
  · rw [if_pos h, show (Finset.univ.filter fun j : Fin 4096 => j.val < k.val + 1 ∧ idOf G w s j = v)
        = insert k (Finset.univ.filter fun j : Fin 4096 => j.val < k.val ∧ idOf G w s j = v) from ?_,
      Finset.card_insert_of_notMem (by simp)]
    ext j
    simp only [Finset.mem_filter, Finset.mem_univ, true_and, Finset.mem_insert]
    constructor
    · rintro ⟨hj, e⟩
      rcases Nat.lt_or_ge j.val k.val with hl | hl
      · exact .inr ⟨hl, e⟩
      · exact .inl (Fin.ext (by omega))
    · rintro (rfl | ⟨hj, e⟩)
      · exact ⟨Nat.lt_succ_self _, h⟩
      · exact ⟨by omega, e⟩
  · rw [if_neg h]
    refine (congrArg Finset.card (Finset.ext fun j => ?_)).trans (Nat.add_zero _).symm
    simp only [Finset.mem_filter, Finset.mem_univ, true_and]
    constructor
    · rintro ⟨hj, e⟩
      refine ⟨?_, e⟩
      rcases Nat.lt_or_ge j.val k.val with hl | hl
      · exact hl
      · exact absurd ((Fin.ext (by omega) : j = k) ▸ e) h
    · rintro ⟨hj, e⟩; exact ⟨by omega, e⟩

/-- The counters when the first `n` cells are done, and cell `n` of the samples below `16 * p`. -/
def hist (G : Cells) (w : Fin 32) (n p : ℕ) : (⟨2, ![128, 128]⟩ : Shape).Idx → BitVec 32 :=
  fun x => BitVec.ofNat 32 (hits G w (if (x 0).val < 16 * p then n + 1 else n) ⟨(x 0).val, idx2_lt0 x⟩ (x 1).val)

/-- Before any cell every counter is zero. -/
theorem hist_start (G : Cells) (w : Fin 32) : hist G w 0 0 = fun _ => 0#32 :=
  funext fun x => by unfold hist; rw [if_neg (by omega), hits_zero]

/-- All eight groups of cell `n` done is cell `n` done. -/
theorem hist_full (G : Cells) (w : Fin 32) (n : ℕ) : hist G w n 8 = hist G w (n + 1) 0 :=
  funext fun x => by
    have h : (x 0).val < 128 := (x 0).isLt
    unfold hist; rw [if_pos (by omega), if_neg (by omega)]

/-- A scatter that adds one at each lane's index adds to an element the number of lanes that name it. -/
theorem fold_add_one {F : FTy → Type} [FloatOps F] {s : Shape} {n : ℕ} (at' : Fin n → s.Idx) (l : List (Fin n)) (f : s.Idx → BitVec 32) (j : s.Idx) :
    l.foldl (fun (g : s.Idx → BitVec 32) k => fun j => if (∀ a, (j a).val = (at' k a).val) then g (at' k) + 1#32 else g j) f j
      = f j + BitVec.ofNat 32 (l.countP fun k => decide (∀ a, (j a).val = (at' k a).val)) := by
  induction l generalizing f with
  | nil => simp
  | cons k l ih =>
    rw [List.foldl_cons, ih, List.countP_cons]
    by_cases h : ∀ a, (j a).val = (at' k a).val
    · have e : j = at' k := funext fun a => Fin.ext (h a)
      simp only [h, implies_true, if_true, decide_true]
      rw [← e, BitVec.ofNat_add, BitVec.add_assoc, BitVec.add_comm 1#32]
    · simp only [h, if_false, decide_false, Bool.false_eq_true, Nat.add_zero]

/-- Group `p` of cell `k`: sixteen lanes, lane `l` adding one to the counter of sample `16 * p + l` at that sample's number. -/
theorem storeIdx_hist {F : FTy → Type} [FloatOps F] (G : Cells) (w : Fin 32) (k : Fin 4096) (p : Fin 8)
    (row ids one : IVec ⟨1, ![16]⟩ 32) (msk : IVec ⟨1, ![16]⟩ 1)
    (hrow : ∀ x, (row x).toNat = 16 * p.val + (x 0).val)
    (hids : ∀ (x : (⟨1, ![16]⟩ : Shape).Idx) (s : Fin 128), s.val = 16 * p.val + (x 0).val → (ids x).toNat = idOf G w s k)
    (hone : ∀ x, one x = 1#32) (hmsk : ∀ x, msk x = 1)
    (h : ∀ a x, ((![row, ids] : Fin 2 → IVec ⟨1, ![16]⟩ 32) a x).toNat < (⟨2, ![128, 128]⟩ : Shape).size a) :
    storeIdx (F := F) (s := ⟨2, ![128, 128]⟩) (e := .i32) (hist G w k.val p.val) ![row, ids] one msk true h = hist G w k.val (p.val + 1) := by
  funext j
  unfold storeIdx
  simp only [hmsk, if_true, hone, Elt.idxAdd_i32]
  refine (fold_add_one (F := F) (fun l => idxAt (s := ⟨2, ![128, 128]⟩) ![row, ids] h (Shape.ofLane l)) _ _ _).trans ?_
  have hj0 : (j 0).val < 128 := (j 0).isLt
  have hat : ∀ l : Fin 16, (∀ a, (j a).val = (idxAt (s := ⟨2, ![128, 128]⟩) ![row, ids] h (Shape.ofLane (d := ![16]) l) a).val)
      ↔ ((j 0).val = 16 * p.val + l.val ∧ (j 1).val = (ids (Shape.ofLane (d := ![16]) l)).toNat) := by
    intro l
    rw [Fin.forall_fin_two]
    exact and_congr (by show _ = (row _).toNat ↔ _; rw [hrow]; rfl) Iff.rfl
  have hc : ((List.finRange 16).countP fun l : Fin 16 => decide (∀ a, (j a).val = (idxAt (s := ⟨2, ![128, 128]⟩) ![row, ids] h (Shape.ofLane (d := ![16]) l) a).val))
      = (List.finRange 16).countP fun l => decide ((j 0).val = 16 * p.val + l.val ∧ idOf G w ⟨(j 0).val, idx2_lt0 j⟩ k = (j 1).val) := by
    refine List.countP_congr fun l _ => ?_
    rw [decide_eq_true_iff, decide_eq_true_iff, hat]
    constructor
    · rintro ⟨h0, h1⟩; exact ⟨h0, by rw [h1, hids _ ⟨(j 0).val, idx2_lt0 j⟩ h0]⟩
    · rintro ⟨h0, h1⟩; exact ⟨h0, by rw [← h1, hids _ ⟨(j 0).val, idx2_lt0 j⟩ h0]⟩
  refine (congrArg (fun c : ℕ => hist G w k.val p.val j + BitVec.ofNat 32 c) hc).trans ?_
  unfold hist
  by_cases hin : 16 * p.val ≤ (j 0).val ∧ (j 0).val < 16 * (p.val + 1)
  · rw [if_neg (by omega), if_pos hin.2, hits_succ, ← BitVec.ofNat_add]
    congr 2
    by_cases hv : idOf G w ⟨(j 0).val, idx2_lt0 j⟩ k = (j 1).val
    · rw [if_pos hv, List.countP_congr (q := fun l => l == (⟨(j 0).val - 16 * p.val, by omega⟩ : Fin 16)) fun l _ => by
        rw [decide_eq_true_iff, beq_iff_eq, Fin.ext_iff]; constructor
        · rintro ⟨h0, -⟩; show l.val = _ - _; omega
        · intro e; have e' : l.val = (j 0).val - 16 * p.val := e; exact ⟨by omega, hv⟩]
      exact List.count_eq_one_of_mem (List.nodup_finRange 16) (List.mem_finRange _)
    · rw [if_neg hv, List.countP_eq_zero]
      intro l _; rw [decide_eq_true_iff]; exact fun e => hv e.2
  · rw [List.countP_eq_zero.mpr (fun l _ => by rw [decide_eq_true_iff]; exact fun e => hin ⟨by omega, by have := l.isLt; omega⟩)]
    have : ((j 0).val < 16 * p.val) = ((j 0).val < 16 * (p.val + 1)) := propext (by omega)
    simp only [this]; exact BitVec.add_zero _

end Cert.Proof.Hist

end
-- ==== Proof.Setup.lean ====
/-
  The program as the launch sees it, and the names the proof uses for its arrays, its tile memories and its semaphores.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Count
public import proofs.«01_k».proof.Proof.Gen.KernelIdeal
public import proofs.«01_k».proof.Proof.Gen.KernelIdeal.Skeleton

@[expose] public section

noncomputable section

namespace Cert.Proof.Hist

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (SparseCore.Cfg.HIx 1) (Elt F) ℕ UU ℕ

abbrev EH : Emb UH (MT nD τ sig (SparseCore.Cfg.HIx 1) (Elt F) ℕ UU ℕ) := embL
/-- Where the transfers' counters live. -/
abbrev EC : UEmb Counters (MT nD τ sig (SparseCore.Cfg.HIx 1) (Elt F) ℕ UU ℕ) := countersEmb

/-! ## Arrays, tile memories, semaphores -/

/-- The array the tiles read and the array they write, on device `d`. -/
abbrev gLoc (d : Dev nD) : Loc nD τ sig := (SparseCore.T d).loc main_v3
abbrev oLoc (d : Dev nD) : Loc nD τ sig := (SparseCore.T d).loc main_v4

abbrev gV : Memref sig .scVector .hbm S4096x32x2x128 .i32 := Memref.whole main_v3_scv
abbrev oV : Memref sig .scVector .hbm S4096x128 .i32 := Memref.whole main_v4_scv
/-- A tile's two chunk buffers and its table of counters. -/
abbrev bA : Memref sig .scVector .vmem S256x128 .i32 := Memref.whole cc0_scratch0
abbrev bB : Memref sig .scVector .vmem S256x128 .i32 := Memref.whole cc0_scratch1
abbrev hT : Memref sig .scVector .vmem S128x128 .i32 := Memref.whole cc0_scratch2

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

theorem L0_lt (L : grid0.Coords) : (L 0).val < 2 := (L 0).isLt
theorem L1_lt (L : grid0.Coords) : (L 1).val < 16 := (L 1).isLt
/-- The tile's number: which 128 samples are its own. -/
def wid (L : grid0.Coords) : Fin 32 := ⟨2 * (L 1).val + (L 0).val, by have := L0_lt L; have := L1_lt L; omega⟩

/-- The semaphore chunk buffer `A` (`B`) is filled on, and the one the table is copied out on. -/
abbrev semA : DmaSem sig := ((cc0_scratch3.slice (Rect.unit (s := S2) ![0] S1.size inb_S2_S1_0)).squeeze S_ squeezes_S1_S_).sem
abbrev semB : DmaSem sig := ((cc0_scratch3.slice (Rect.unit (s := S2) ![1] S1.size inb_S2_S1_1)).squeeze S_ squeezes_S1_S_).sem
abbrev semO : DmaSem sig := cc0_scoped0.sem

end Cert.Proof.Hist

end
-- ==== Proof.Zero.lean ====
/-
  The table of counters is cleared by 1024 stores of sixteen zeros, printed one by one. `zeros` is any run of them.
-/
module

public import proofs.«01_k».proof.Proof.Setup

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords)

/-- A program of the tile at `L`. -/
abbrev TProg (F : FTy → Type) (L : grid0.Coords) (α : Type) : Type 1 :=
  Prog (TpuEff nD τ sig (Elt F) Λ₀ (.scVector ((L 0).castLE hcore0) ((L 1).castLE hsub0))) α

omit [FloatOps F] in
theorem zero_inb (n : ℕ) : ∀ a, (![n / 8 % 128, 16 * (n % 8)] : Fin 2 → ℕ) a + S1x16.size a ≤ S128x128.size a := by
  refine Fin.forall_fin_two.mpr ⟨?_, ?_⟩
  · show n / 8 % 128 + 1 ≤ 128; omega
  · show 16 * (n % 8) + 16 ≤ 128; omega

/-- The sixteen counters the `n`-th zero store writes. -/
abbrev zeroRect (n : ℕ) : Rect S128x128 := Rect.unit (s := S128x128) ![n / 8 % 128, 16 * (n % 8)] S1x16.size (zero_inb n)

/-- `c` zero stores from the `n`-th on, each after a load whose value nothing reads. -/
def zeros : ℕ → ℕ → TProg F L PUnit
  | _, 0 => pure ⟨⟩
  | n, c + 1 => do
    let _ ← Prog.lift (.load hT (zeroRect n).toLoadRect (View.loadsAt_vmem h_S1x16))
    Prog.lift (.store hT (zeroRect n) (shapeCast S1x16 (k0_pay20 : IVec S16 32) shapeCasts_S16_S1x16) Finset.univ (View.stores_vmem_bits_univ h_S1x16 rfl) (.inl rfl))
    zeros (n + 1) c

/-- The first `16 * n` counters of the table, row by row, are zero. -/
def Zeroed (n : ℕ) : sProp 𝕄 :=
  iprop(∃ f : S128x128.Idx → BitVec 32, ((thr d L).loc cc0_scratch2 ↦{fullShare} f) ∗ ⌜∀ x, 128 * (x 0).val + (x 1).val < 16 * n → f x = 0#32⌝)

omit [FloatOps F] in
/-- The `n`-th zero store leaves sixteen more counters at zero. -/
theorem zero_write (n : ℕ) (hn : n < 1024) (f : S128x128.Idx → BitVec 32) (w : S1x16.Idx → BitVec 32) (hw : ∀ y, w y = 0#32)
    (hf : ∀ x, 128 * (x 0).val + (x 1).val < 16 * n → f x = 0#32) (x : S128x128.Idx) (hx : 128 * (x 0).val + (x 1).val < 16 * (n + 1)) :
    (hT.access (zeroRect n)).write (Elt F) f w Finset.univ x = (0#32 : BitVec 32) := by
  have h1 : (x 1).val < 128 := (x 1).isLt
  by_cases hm : x ∈ (hT.access (zeroRect n)).set
  · obtain ⟨y, -, rfl⟩ := Finset.mem_map.mp hm
    exact (View.write_emb_of_mem (v := hT.access (zeroRect n)) (Val := Elt F) f w (Finset.mem_univ y)).trans (hw y)
  · refine (View.write_of_not_mem (v := hT.access (zeroRect n)) (Val := Elt F) f w Finset.univ hm).trans (hf x ?_)
    by_contra hge
    refine hm ?_
    have e : x = (hT.access (zeroRect n)).emb (ix2 (0 : Fin 1) (⟨(x 1).val - 16 * (n % 8), by omega⟩ : Fin 16)) := by
      funext a
      refine Fin.ext ?_
      match a with
      | ⟨0, _⟩ => show (x 0).val = n / 8 % 128 + 1 * 0; omega
      | ⟨1, _⟩ => show (x 1).val = 16 * (n % 8) + 1 * ((x 1).val - 16 * (n % 8)); omega
    rw [e]; exact Finset.mem_map_of_mem _ (Finset.mem_univ _)

/-- `c` zero stores from the `n`-th on leave sixteen more counters each at zero. -/
theorem wp_zeros {α : Type} {Q : α → sProp 𝕄} {R : sProp 𝕄} (k : PUnit → TProg F L α) :
    ∀ c n : ℕ, n + c ≤ 1024 →
      (iprop(Zeroed d L (n + c) ∗ R) ⊢ wp frame (wpE (defs₀ (F := F)) 𝒱₀ (thr d L) none) Set.univ (k ⟨⟩) Q) →
      (iprop(Zeroed (F := F) d L n ∗ R) ⊢ wp frame (wpE (defs₀ (F := F)) 𝒱₀ (thr d L) none) Set.univ (zeros (F := F) L n c >>= k) Q)
  | 0, n, _, h => h
  | c + 1, n, hn, h => by
    have ih := wp_zeros k c (n + 1) (by omega) (by rw [Nat.add_right_comm, Nat.add_assoc]; exact h)
    simp only [zeros, Prog.lift, Prog.bind_op, Prog.bind_ret, Prog.pure_eq_ret]
    conv in Zeroed d L n => unfold Zeroed
    iintro ⟨⟨%f, Hh, %hf⟩, HR⟩
    iapply (wp_load 𝒱₀ (thr d L) none Set.univ (m := hT) (S := Finset.univ) (Finset.subset_univ _)) $$ Hh; iintro Hh
    iapply (wp_store 𝒱₀ (thr d L) none Set.univ (m := hT) (r := zeroRect n) (Mk := Finset.univ) (S := Finset.univ) (Finset.subset_univ _)) $$ Hh; iintro Hh
    iapply ih
    isplitl [Hh]
    · unfold Zeroed
      iexists _; isplitl [Hh]; · iexact Hh
      ipureintro
      exact zero_write (F := F) n (by omega) f _ (fun _ => rfl) hf
    · iexact HR

end Cert.Proof.Hist

end
-- ==== Proof.Scatter.lean ====
/-
  One cell of a chunk. The 128 samples of a cell are done in eight groups of sixteen: `group` is one such group, and
  `wp_group` says it counts its sixteen samples.
-/
module

public import proofs.«01_k».proof.Proof.Zero
public import Idealize.ShloMosaic.Lib.ValueLayout

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords)

/-- The sample numbers of group `p`: `16 * p` up to `16 * p + 15`. -/
abbrev rowVec (p : Fin 8) : IVec S16 32 :=
  addi (iota .scVector S16 32 [0] iota_S16_d0_w32_scVector) (broadcast S16 (BitVec.ofNat 32 (16 * p.val)))

theorem rowVec_toNat (p : Fin 8) (x : S16.Idx) : (rowVec p x).toNat = 16 * p.val + (x 0).val := by
  obtain ⟨i, rfl⟩ : ∃ i : Fin 16, x = ix1 i := ⟨x 0, eq_ix1 x⟩
  have h1 := i.isLt; have h2 := p.isLt
  show (BitVec.ofNat 32 (0 * 16 + i.val) + BitVec.ofNat 32 (16 * p.val)).toNat = 16 * p.val + i.val
  rw [BitVec.toNat_add, BitVec.toNat_ofNat, BitVec.toNat_ofNat]; omega

/-- A lane's number is eight times its type and its colour. -/
theorem ids_toNat (a b : IVec S1x16 32) (x : S16.Idx) (ha : (a (ix2 (0 : Fin 1) (x 0))).toNat < 8) (hb : (b (ix2 (0 : Fin 1) (x 0))).toNat < 8) :
    (k0_pay1 (F := F) a b x).toNat = 8 * (a (ix2 (0 : Fin 1) (x 0))).toNat + (b (ix2 (0 : Fin 1) (x 0))).toNat := by
  obtain ⟨i, rfl⟩ : ∃ i : Fin 16, x = ix1 i := ⟨x 0, eq_ix1 x⟩
  have e : k0_pay1 (F := F) a b (ix1 i) = a (ix2 (0 : Fin 1) i) <<< (3#32) + b (ix2 (0 : Fin 1) i) := by
    show IntOp.addi (IntOp.shli .vector (shapeCast S16 a shapeCasts_S1x16_S16 (ix1 i)) (3#32)) (shapeCast S16 b shapeCasts_S1x16_S16 (ix1 i)) = _
    rw [shapeCast_1a_a_apply, shapeCast_1a_a_apply]; rfl
  rw [e]
  change (a (ix2 (0 : Fin 1) i)).toNat < 8 at ha
  change (b (ix2 (0 : Fin 1) i)).toNat < 8 at hb
  show _ = 8 * (a (ix2 (0 : Fin 1) i)).toNat + (b (ix2 (0 : Fin 1) i)).toNat
  rw [BitVec.toNat_add, BitVec.shiftLeft_eq', BitVec.toNat_shiftLeft, Nat.shiftLeft_eq, show (3#32).toNat = 3 from rfl]; omega

/-- A chunk buffer's contents: rows `2 * j` and `2 * j + 1` are the types and the colours of cell `128 * n + j`. -/
def IsChunk (G : Cells) (w : Fin 32) (n : ℕ) (r : S256x128.Idx → BitVec 32) : Prop :=
  ∀ (j : Fin 128) (f : Fin 2) (s : Fin 128) (k : Fin 4096), k.val = 128 * n + j.val →
    r (ix2 ⟨2 * j.val + f.val, by omega⟩ s) = G (ix4 k w f s)

/-- Sixteen samples of one cell, as the kernel prints them: load the types, load the colours, add one at their numbers. -/
def group (buf : Memref sig .scVector .vmem S256x128 .i32) (oA oB : Fin 2 → ℕ) (hA : ∀ a, oA a + S1x16.size a ≤ S256x128.size a)
    (hB : ∀ a, oB a + S1x16.size a ≤ S256x128.size a) (row : IVec S16 32) : TProg F L PUnit := do
  let a : Vec F S1x16 .i32 ← Prog.lift (.load buf (Rect.unit (s := S256x128) oA S1x16.size hA).toLoadRect (View.loadsAt_vmem h_S1x16))
  let b : Vec F S1x16 .i32 ← Prog.lift (.load buf (Rect.unit (s := S256x128) oB S1x16.size hB).toLoadRect (View.loadsAt_vmem h_S1x16))
  have h : k0_chk1 row (k0_pay1 a b) := (← Prog.lift (TpuEff.assume (k0_chk1 row (k0_pay1 a b)) (k0_chk1.dec row (k0_pay1 a b)))).down
  SparseCore.vectorStoreIdx hT ![row, k0_pay1 a b] k0_pay19 (fun _ => 1#1) true (k0_idx1_inb row (k0_pay1 a b) h) (View.stores_vmem_bits_univ h_S128x128 rfl)

/-- One group of cell `128 * n + j` takes the table from `p` groups of that cell done to `p + 1`. -/
theorem wp_group {α : Type} {Q : α → sProp 𝕄} {R : sProp 𝕄} {kk : PUnit → TProg F L α} {buf : Memref sig .scVector .vmem S256x128 .i32}
    {oA oB : Fin 2 → ℕ} {hA hB} {row : IVec S16 32} {G : Cells} {w : Fin 32} {n : ℕ} (j : Fin 128) (p : Fin 8) {k : Fin 4096} (hk : k.val = 128 * n + j.val)
    {fb : Buf (Elt F) (buf.view.loc (thr d L))} (hG : ∀ i, (G i).toNat < 8) (hfb : IsChunk G w n (buf.view.read (Elt F) fb))
    (eA : oA = ![2 * j.val, 16 * p.val]) (eB : oB = ![2 * j.val + 1, 16 * p.val]) (erow : row = rowVec p)
    (hQ : iprop((buf.view.loc (thr d L) ↦{fullShare} fb) ∗ (hT.view.loc (thr d L) ↦{fullShare} hist G w k.val (p.val + 1)) ∗ R)
      ⊢ wp frame (wpE (defs₀ (F := F)) 𝒱₀ (thr d L) none) Set.univ (kk ⟨⟩) Q) :
    iprop((buf.view.loc (thr d L) ↦{fullShare} fb) ∗ (hT.view.loc (thr d L) ↦{fullShare} hist G w k.val p.val) ∗ R)
      ⊢ wp frame (wpE (defs₀ (F := F)) 𝒱₀ (thr d L) none) Set.univ (group L buf oA oB hA hB row >>= kk) Q := by
  subst eA eB erow
  -- what the two loads read
  have rd : ∀ (f : Fin 2) (o : Fin 2 → ℕ) (ho : ∀ a, o a + S1x16.size a ≤ S256x128.size a) (_ : o = ![2 * j.val + f.val, 16 * p.val]) (x : Fin 16) (s : Fin 128),
      s.val = 16 * p.val + x.val →
      buf.view.readAt (Elt F) (Rect.unit (s := S256x128) o S1x16.size ho).toLoadRect fb (ix2 (0 : Fin 1) x) = G (ix4 k w f s) := by
    intro f o ho eo x s hs
    subst eo
    refine Eq.trans ?_ (hfb j f s k hk)
    rw [View.readAt_apply]
    refine congrArg _ (funext fun a => Fin.ext ?_)
    match a with
    | ⟨0, _⟩ => show 2 * j.val + f.val + 1 * 0 = 2 * j.val + f.val; omega
    | ⟨1, _⟩ => show 16 * p.val + 1 * x.val = s.val; omega
  have hp := p.isLt
  have rdA := rd 0 _ hA rfl
  have rdB := rd 1 _ hB rfl
  generalize ea : (buf.view.readAt (Elt F) (Rect.unit (s := S256x128) ![2 * j.val, 16 * p.val] S1x16.size hA).toLoadRect fb : Vec F S1x16 .i32) = a at rdA
  generalize eb : (buf.view.readAt (Elt F) (Rect.unit (s := S256x128) ![2 * j.val + 1, 16 * p.val] S1x16.size hB).toLoadRect fb : Vec F S1x16 .i32) = b at rdB
  have hids : ∀ (x : S16.Idx) (s : Fin 128), s.val = 16 * p.val + (x 0).val → (k0_pay1 (F := F) a b x).toNat = idOf G w s k := by
    intro x s hs
    have h1 := rdA (x 0) s hs
    have h2 := rdB (x 0) s hs
    rw [ids_toNat (F := F) a b x (by rw [h1]; exact hG _) (by rw [h2]; exact hG _), h1, h2]; rfl
  have hchk : k0_chk1 (rowVec p) (k0_pay1 (F := F) a b) := by
    refine Fin.forall_fin_two.mpr ⟨fun x => ?_, fun x => ?_⟩
    · have hx : (x 0).val < 16 := (x 0).isLt
      show (rowVec p x).toNat < 128
      rw [rowVec_toNat]; omega
    · have hx : (x 0).val < 16 := (x 0).isLt
      show (k0_pay1 (F := F) a b x).toNat < 128
      rw [hids x ⟨16 * p.val + (x 0).val, by omega⟩ rfl]
      have h1 := hG (ix4 k w 0 ⟨16 * p.val + (x 0).val, by omega⟩)
      have h2 := hG (ix4 k w 1 ⟨16 * p.val + (x 0).val, by omega⟩)
      unfold idOf; omega
  have eset : (hT.access (.whole S128x128)).set = Finset.univ := Memref.set_access_whole _
  have ewr : (hT.access (.whole S128x128)).write (Elt F) (hist G w k.val p.val)
      (storeIdx ((hT.access (.whole S128x128)).read (Elt F) (hist G w k.val p.val)) ![rowVec p, k0_pay1 (F := F) a b] k0_pay19 (fun _ => 1#1) true (k0_idx1_inb _ _ hchk)) Finset.univ
      = hist G w k.val (p.val + 1) := (Memref.write_access_whole_univ (Elt F) cc0_scratch2 (hist G w k.val p.val)
    (storeIdx ((hT.access (.whole S128x128)).read (Elt F) (hist G w k.val p.val)) ![rowVec p, k0_pay1 (F := F) a b] k0_pay19 (fun _ => 1#1) true (k0_idx1_inb _ _ hchk))).trans
    ((congrArg (fun f => storeIdx (F := F) (s := S128x128) (e := .i32) f ![rowVec p, k0_pay1 (F := F) a b] k0_pay19 (fun _ => 1#1) true (k0_idx1_inb _ _ hchk))
        (Memref.read_access_whole (Elt F) cc0_scratch2 (hist G w k.val p.val))).trans
      (storeIdx_hist (F := F) G w k p _ _ _ _ (rowVec_toNat p) hids (fun _ => rfl) (fun _ => rfl) _))
  unfold group
  simp only [Prog.lift, Prog.bind_op, Prog.bind_ret, Prog.pure_eq_ret, bind_assoc]
  iintro ⟨Hb, Hh, HR⟩
  iapply (wp_load 𝒱₀ (thr d L) none Set.univ (m := buf) (S := Finset.univ) (Finset.subset_univ _)) $$ Hb; iintro Hb
  iapply (wp_load 𝒱₀ (thr d L) none Set.univ (m := buf) (S := Finset.univ) (Finset.subset_univ _)) $$ Hb; iintro Hb
  rw [ea, eb, wp_assume_of 𝒱₀ (thr d L) none Set.univ hchk]
  iapply (SparseCore.wp_vectorStoreIdx 𝒱₀ (thr d L) none Set.univ (base := hT) (f := hist G w k.val p.val)) $$ [Hh]
  · rw [eset]; iexact Hh
  rw [eset, ewr]
  iintro Hh
  iapply hQ
  isplitl [Hb]; · iexact Hb
  isplitl [Hh]
  · iexact Hh
  · iexact HR

end Cert.Proof.Hist

end
-- ==== Proof.Cell.lean ====
/-
  The two inner loops: a trip counts one cell of the chunk in a buffer, and the loop counts the chunk's 128 cells.
-/
module

public import proofs.«01_k».proof.Proof.Scatter

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords) (G : Cells) (w : Fin 32)

/-- The tile holds a chunk buffer at `fb` and its table at the counts of the first `m` cells. -/
abbrev Counted (buf : Memref sig .scVector .vmem S256x128 .i32) (fb : Buf (Elt F) (buf.view.loc (thr d L))) (m : ℕ) : sProp 𝕄 :=
  iprop((buf.view.loc (thr d L) ↦{fullShare} fb) ∗ (hT.view.loc (thr d L) ↦{fullShare} hist G w m 0) ∗ emp)

/-- A trip of the loop over chunk buffer `A` is the eight groups of its cell. -/
theorem bodyA_eq (c0 c1 : BitVec 32) (t1 : Fin k0_t1_loop.trips) (j : Fin k0_t2_loop.trips) (a : Unit) :
    (k0_t2_body (F := F) L gV (Memref.isWhole_whole _) oV (Memref.isWhole_whole _) bA (Memref.isWhole_whole _) bB (Memref.isWhole_whole _) hT (Memref.isWhole_whole _) cc0_scratch3 cc0_scoped0
        k0_pay19 k0_pay21 k0_pay22 k0_pay23 k0_pay24 k0_pay25 k0_pay26 k0_pay27 k0_pay28 c0 c1 t1 j a) = (do
      group L bA (k0_off4 j) (k0_off5 j) (k0_off4_inb j) (k0_off5_inb j) k0_pay21
      group L bA (k0_off6 j) (k0_off7 j) (k0_off6_inb j) (k0_off7_inb j) k0_pay22
      group L bA (k0_off8 j) (k0_off9 j) (k0_off8_inb j) (k0_off9_inb j) k0_pay23
      group L bA (k0_off10 j) (k0_off11 j) (k0_off10_inb j) (k0_off11_inb j) k0_pay24
      group L bA (k0_off12 j) (k0_off13 j) (k0_off12_inb j) (k0_off13_inb j) k0_pay25
      group L bA (k0_off14 j) (k0_off15 j) (k0_off14_inb j) (k0_off15_inb j) k0_pay26
      group L bA (k0_off16 j) (k0_off17 j) (k0_off16_inb j) (k0_off17_inb j) k0_pay27
      group L bA (k0_off18 j) (k0_off19 j) (k0_off18_inb j) (k0_off19_inb j) k0_pay28
      pure ⟨⟩) := rfl

/-- A trip of the loop over chunk buffer `A` counts one cell. -/
theorem wp_bodyA {fb : Buf (Elt F) (bA.view.loc (thr d L))} {n : ℕ} (hn : n < 32) (hG : ∀ i, (G i).toNat < 8)
    (hfb : IsChunk G w n (bA.view.read (Elt F) fb)) (c0 c1 : BitVec 32) (t1 : Fin k0_t1_loop.trips) (j : Fin k0_t2_loop.trips) (a : Unit) :
    Counted (F := F) d L G w bA fb (128 * n + j.val)
      ⊢ wp frame (wpE (defs₀ (F := F)) 𝒱₀ (thr d L) none) Set.univ (k0_t2_body (F := F) L gV (Memref.isWhole_whole _) oV (Memref.isWhole_whole _) bA (Memref.isWhole_whole _) bB (Memref.isWhole_whole _) hT (Memref.isWhole_whole _) cc0_scratch3 cc0_scoped0
        k0_pay19 k0_pay21 k0_pay22 k0_pay23 k0_pay24 k0_pay25 k0_pay26 k0_pay27 k0_pay28 c0 c1 t1 j a) (fun _ => Counted (F := F) d L G w bA fb (128 * n + (j.val + 1))) := by
  have hj : j.val < 128 := lt_of_lt_of_le j.isLt k0_t2_abs.2.1
  have hk : 128 * n + j.val < 4096 := by omega
  rw [bodyA_eq]
  unfold Counted
  refine wp_group d L (⟨j.val, hj⟩ : Fin 128) 0 (k := ⟨128 * n + j.val, hk⟩) rfl hG hfb (k0_off4_eq j) (k0_off5_eq j) rfl ?_
  refine wp_group d L (⟨j.val, hj⟩ : Fin 128) 1 (k := ⟨128 * n + j.val, hk⟩) rfl hG hfb (k0_off6_eq j) (k0_off7_eq j) rfl ?_
  refine wp_group d L (⟨j.val, hj⟩ : Fin 128) 2 (k := ⟨128 * n + j.val, hk⟩) rfl hG hfb (k0_off8_eq j) (k0_off9_eq j) rfl ?_
  refine wp_group d L (⟨j.val, hj⟩ : Fin 128) 3 (k := ⟨128 * n + j.val, hk⟩) rfl hG hfb (k0_off10_eq j) (k0_off11_eq j) rfl ?_
  refine wp_group d L (⟨j.val, hj⟩ : Fin 128) 4 (k := ⟨128 * n + j.val, hk⟩) rfl hG hfb (k0_off12_eq j) (k0_off13_eq j) rfl ?_
  refine wp_group d L (⟨j.val, hj⟩ : Fin 128) 5 (k := ⟨128 * n + j.val, hk⟩) rfl hG hfb (k0_off14_eq j) (k0_off15_eq j) rfl ?_
  refine wp_group d L (⟨j.val, hj⟩ : Fin 128) 6 (k := ⟨128 * n + j.val, hk⟩) rfl hG hfb (k0_off16_eq j) (k0_off17_eq j) rfl ?_
  refine wp_group d L (⟨j.val, hj⟩ : Fin 128) 7 (k := ⟨128 * n + j.val, hk⟩) rfl hG hfb (k0_off18_eq j) (k0_off19_eq j) rfl ?_
  rw [wp_pure, show (⟨128 * n + j.val, hk⟩ : Fin 4096).val = 128 * n + j.val from rfl,
    show hist G w (128 * n + j.val) ((7 : Fin 8).val + 1) = hist G w (128 * n + (j.val + 1)) 0 from hist_full G w _]
  exact BI.fupd_intro

/-- The loop over chunk buffer `A` counts the chunk's 128 cells. -/
theorem wp_loopA {α : Type} {Q : α → sProp 𝕄} {kk : Unit → TProg F L α} {fb : Buf (Elt F) (bA.view.loc (thr d L))} {n : ℕ} (hn : n < 32)
    (hG : ∀ i, (G i).toNat < 8) (hfb : IsChunk G w n (bA.view.read (Elt F) fb)) (c0 c1 : BitVec 32) (t1 : Fin k0_t1_loop.trips) :
    Counted (F := F) d L G w bA fb (128 * n)
      ⊢ iprop((Counted (F := F) d L G w bA fb (128 * (n + 1)) -∗ wp frame (wpE (defs₀ (F := F)) 𝒱₀ (thr d L) none) Set.univ (kk ⟨⟩) Q)
        -∗ wp frame (wpE (defs₀ (F := F)) 𝒱₀ (thr d L) none) Set.univ
      (Scf.Loop.for k0_t2_loop k0_t2_ok ⟨⟩ (k0_t2_body (F := F) L gV (Memref.isWhole_whole _) oV (Memref.isWhole_whole _) bA (Memref.isWhole_whole _) bB (Memref.isWhole_whole _) hT (Memref.isWhole_whole _) cc0_scratch3 cc0_scoped0
        k0_pay19 k0_pay21 k0_pay22 k0_pay23 k0_pay24 k0_pay25 k0_pay26 k0_pay27 k0_pay28 c0 c1 t1) >>= kk) Q) := by
  iintro HI Hk
  iapply (Scf.wp_for_bind frame (wpE (defs₀ (F := F)) 𝒱₀ (thr d L) none) Set.univ _ _ _ k0_t2_ok ⟨⟩ _ (fun j _ => Counted (F := F) d L G w bA fb (128 * n + j))
    (fun j a => wp_bodyA d L G w hn hG hfb c0 c1 t1 j a)) $$ [HI]
  · iexact HI
  iintro %_ HI
  iapply Hk
  iexact HI

/-- A trip of the loop over chunk buffer `B` is the eight groups of its cell. -/
theorem bodyB_eq (c0 c1 : BitVec 32) (t1 : Fin k0_t1_loop.trips) (j : Fin k0_t3_loop.trips) (a : Unit) :
    (k0_t3_body (F := F) L gV (Memref.isWhole_whole _) oV (Memref.isWhole_whole _) bA (Memref.isWhole_whole _) bB (Memref.isWhole_whole _) hT (Memref.isWhole_whole _) cc0_scratch3 cc0_scoped0
        k0_pay19 k0_pay21 k0_pay22 k0_pay23 k0_pay24 k0_pay25 k0_pay26 k0_pay27 k0_pay28 c0 c1 t1 j a) = (do
      group L bB (k0_off22 j) (k0_off23 j) (k0_off22_inb j) (k0_off23_inb j) k0_pay21
      group L bB (k0_off24 j) (k0_off25 j) (k0_off24_inb j) (k0_off25_inb j) k0_pay22
      group L bB (k0_off26 j) (k0_off27 j) (k0_off26_inb j) (k0_off27_inb j) k0_pay23
      group L bB (k0_off28 j) (k0_off29 j) (k0_off28_inb j) (k0_off29_inb j) k0_pay24
      group L bB (k0_off30 j) (k0_off31 j) (k0_off30_inb j) (k0_off31_inb j) k0_pay25
      group L bB (k0_off32 j) (k0_off33 j) (k0_off32_inb j) (k0_off33_inb j) k0_pay26
      group L bB (k0_off34 j) (k0_off35 j) (k0_off34_inb j) (k0_off35_inb j) k0_pay27
      group L bB (k0_off36 j) (k0_off37 j) (k0_off36_inb j) (k0_off37_inb j) k0_pay28
      pure ⟨⟩) := rfl

/-- A trip of the loop over chunk buffer `B` counts one cell. -/
theorem wp_bodyB {fb : Buf (Elt F) (bB.view.loc (thr d L))} {n : ℕ} (hn : n < 32) (hG : ∀ i, (G i).toNat < 8)
    (hfb : IsChunk G w n (bB.view.read (Elt F) fb)) (c0 c1 : BitVec 32) (t1 : Fin k0_t1_loop.trips) (j : Fin k0_t3_loop.trips) (a : Unit) :
    Counted (F := F) d L G w bB fb (128 * n + j.val)
      ⊢ wp frame (wpE (defs₀ (F := F)) 𝒱₀ (thr d L) none) Set.univ (k0_t3_body (F := F) L gV (Memref.isWhole_whole _) oV (Memref.isWhole_whole _) bA (Memref.isWhole_whole _) bB (Memref.isWhole_whole _) hT (Memref.isWhole_whole _) cc0_scratch3 cc0_scoped0
        k0_pay19 k0_pay21 k0_pay22 k0_pay23 k0_pay24 k0_pay25 k0_pay26 k0_pay27 k0_pay28 c0 c1 t1 j a) (fun _ => Counted (F := F) d L G w bB fb (128 * n + (j.val + 1))) := by
  have hj : j.val < 128 := lt_of_lt_of_le j.isLt k0_t3_abs.2.1
  have hk : 128 * n + j.val < 4096 := by omega
  rw [bodyB_eq]
  unfold Counted
  refine wp_group d L (⟨j.val, hj⟩ : Fin 128) 0 (k := ⟨128 * n + j.val, hk⟩) rfl hG hfb (k0_off22_eq j) (k0_off23_eq j) rfl ?_
  refine wp_group d L (⟨j.val, hj⟩ : Fin 128) 1 (k := ⟨128 * n + j.val, hk⟩) rfl hG hfb (k0_off24_eq j) (k0_off25_eq j) rfl ?_
  refine wp_group d L (⟨j.val, hj⟩ : Fin 128) 2 (k := ⟨128 * n + j.val, hk⟩) rfl hG hfb (k0_off26_eq j) (k0_off27_eq j) rfl ?_
  refine wp_group d L (⟨j.val, hj⟩ : Fin 128) 3 (k := ⟨128 * n + j.val, hk⟩) rfl hG hfb (k0_off28_eq j) (k0_off29_eq j) rfl ?_
  refine wp_group d L (⟨j.val, hj⟩ : Fin 128) 4 (k := ⟨128 * n + j.val, hk⟩) rfl hG hfb (k0_off30_eq j) (k0_off31_eq j) rfl ?_
  refine wp_group d L (⟨j.val, hj⟩ : Fin 128) 5 (k := ⟨128 * n + j.val, hk⟩) rfl hG hfb (k0_off32_eq j) (k0_off33_eq j) rfl ?_
  refine wp_group d L (⟨j.val, hj⟩ : Fin 128) 6 (k := ⟨128 * n + j.val, hk⟩) rfl hG hfb (k0_off34_eq j) (k0_off35_eq j) rfl ?_
  refine wp_group d L (⟨j.val, hj⟩ : Fin 128) 7 (k := ⟨128 * n + j.val, hk⟩) rfl hG hfb (k0_off36_eq j) (k0_off37_eq j) rfl ?_
  rw [wp_pure, show (⟨128 * n + j.val, hk⟩ : Fin 4096).val = 128 * n + j.val from rfl,
    show hist G w (128 * n + j.val) ((7 : Fin 8).val + 1) = hist G w (128 * n + (j.val + 1)) 0 from hist_full G w _]
  exact BI.fupd_intro

/-- The loop over chunk buffer `B` counts the chunk's 128 cells. -/
theorem wp_loopB {α : Type} {Q : α → sProp 𝕄} {kk : Unit → TProg F L α} {fb : Buf (Elt F) (bB.view.loc (thr d L))} {n : ℕ} (hn : n < 32)
    (hG : ∀ i, (G i).toNat < 8) (hfb : IsChunk G w n (bB.view.read (Elt F) fb)) (c0 c1 : BitVec 32) (t1 : Fin k0_t1_loop.trips) :
    Counted (F := F) d L G w bB fb (128 * n)
      ⊢ iprop((Counted (F := F) d L G w bB fb (128 * (n + 1)) -∗ wp frame (wpE (defs₀ (F := F)) 𝒱₀ (thr d L) none) Set.univ (kk ⟨⟩) Q)
        -∗ wp frame (wpE (defs₀ (F := F)) 𝒱₀ (thr d L) none) Set.univ
      (Scf.Loop.for k0_t3_loop k0_t3_ok ⟨⟩ (k0_t3_body (F := F) L gV (Memref.isWhole_whole _) oV (Memref.isWhole_whole _) bA (Memref.isWhole_whole _) bB (Memref.isWhole_whole _) hT (Memref.isWhole_whole _) cc0_scratch3 cc0_scoped0
        k0_pay19 k0_pay21 k0_pay22 k0_pay23 k0_pay24 k0_pay25 k0_pay26 k0_pay27 k0_pay28 c0 c1 t1) >>= kk) Q) := by
  iintro HI Hk
  iapply (Scf.wp_for_bind frame (wpE (defs₀ (F := F)) 𝒱₀ (thr d L) none) Set.univ _ _ _ k0_t3_ok ⟨⟩ _ (fun j _ => Counted (F := F) d L G w bB fb (128 * n + j))
    (fun j a => wp_bodyB d L G w hn hG hfb c0 c1 t1 j a)) $$ [HI]
  · iexact HI
  iintro %_ HI
  iapply Hk
  iexact HI

end Cert.Proof.Hist

end
-- ==== Proof.Chunk.lean ====
/-
  A tile's copies of its cells: chunk `n` is cells `128 * n` up to `128 * n + 127`, copied into a buffer and waited for.
-/
module

public import proofs.«01_k».proof.Proof.Scatter
public import Idealize.ShloMosaic.Lib.ViewIndex

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords) (G : Cells)

/-- A chunk buffer as a copy fills it: cell, field, sample. -/
abbrev chunkDst (buf : Memref sig .scVector .vmem S256x128 .i32) (hc : buf.view.Contiguous) : Memref sig .scVector .vmem S128x2x128 .i32 :=
  buf.reshape S128x2x128 reshapes_S256x128_S128x2x128.1 reshapes_S256x128_S128x2x128.2 hc
/-- The 128 cells of one tile that begin at offset `o`. -/
abbrev chunkSrc (o : Fin 4 → ℕ) (ho : ∀ a, o a + S128x1x2x128.size a ≤ S4096x32x2x128.size a) : Memref sig .scVector .hbm S128x2x128 .i32 :=
  (gV.slice (Rect.unit (s := S4096x32x2x128) o S128x1x2x128.size ho) (fun _ => rfl)).squeeze S128x2x128 squeezes_S128x1x2x128_S128x2x128

omit [FloatOps F] in
/-- The row of a buffer that holds field `f` of cell `j`. -/
theorem reshape_chunk (j : Fin 128) (f : Fin 2) (s : Fin 128) (h : S128x2x128.numel = S256x128.numel) :
    Shape.reshapeEquiv h (ix3 j f s) = ix2 (⟨2 * j.val + f.val, by omega⟩ : Fin 256) s := by
  refine Shape.reshapeEquiv_eq_of_rowMajor h ?_
  rw [Shape.rowMajor_val_two, Shape.rowMajor_val_three]
  show (2 * j.val + f.val) * 128 + s.val = (j.val * 2 + f.val) * 128 + s.val
  omega

omit [FloatOps F] in
theorem reshape_src (j : Fin 128) (f : Fin 2) (s : Fin 128) (h : S128x2x128.numel = S128x1x2x128.numel) :
    Shape.reshapeEquiv h (ix3 j f s) = ix4 j (0 : Fin 1) f s := by
  refine Shape.reshapeEquiv_eq_of_rowMajor h ?_
  rw [Shape.rowMajor_val_four, Shape.rowMajor_val_three]
  show ((j.val * 1 + 0) * 2 + f.val) * 128 + s.val = (j.val * 2 + f.val) * 128 + s.val
  omega

omit [FloatOps F] in
/-- What a copy leaves in a buffer is the chunk it read. -/
theorem isChunk_write (w : Fin 32) (n : ℕ) (buf : Memref sig .scVector .vmem S256x128 .i32) (hc : buf.view.Contiguous)
    (o : Fin 4 → ℕ) (ho) (eo : o = ![128 * n, w.val, 0, 0]) (fd : Buf (Elt F) (buf.view.loc (thr d L))) :
    IsChunk G w n (buf.view.read (Elt F) ((chunkDst buf hc).view.write (Elt F) fd ((chunkSrc o ho).view.read (Elt F) G) Finset.univ)) := by
  intro j f s k hk
  subst eo
  have e := View.read_write_reshape (v := buf.view) (Val := Elt F) (s' := S128x2x128) reshapes_S256x128_S128x2x128.1 fd
    ((chunkSrc ![128 * n, w.val, 0, 0] ho).view.read (Elt F) G) (ix3 j f s)
  rw [reshape_chunk j f s] at e
  refine e.trans ?_
  show G ((Rect.unit (s := S4096x32x2x128) ![128 * n, w.val, 0, 0] S128x1x2x128.size ho).emb (Shape.reshapeEquiv _ (ix3 j f s))) = _
  rw [reshape_src j f s]
  refine congrArg G (funext fun a => Fin.ext ?_)
  match a with
  | ⟨0, _⟩ => show 128 * n + 1 * j.val = k.val; omega
  | ⟨1, _⟩ => show w.val + 1 * 0 = w.val; omega
  | ⟨2, _⟩ => show 0 + 1 * f.val = f.val; omega
  | ⟨3, _⟩ => show 0 + 1 * s.val = s.val; omega

/-- The array the tiles read, held at share `q`, as a tile names it. -/
abbrev src (q : PosShare TreeShare) (S : Finset S4096x32x2x128.Idx) : sProp 𝕄 := iprop(gV.view.loc (thr d L) ↦[S]{q} G)

/-- The copy of chunk `n` into `buf` is under way on `sem`: its wait hands back the buffer, filled, and the share of the source. -/
def InFl (w : Fin 32) (n : ℕ) (q : PosShare TreeShare) (buf : Memref sig .scVector .vmem S256x128 .i32) (hc : buf.view.Contiguous) (sem : DmaSem sig) : sProp 𝕄 :=
  iprop(∃ S, Transfers.Flight EC (thr d L) (.dma sem) none (chunkDst buf hc).view.dmaCredit
      iprop((∃ fb : Buf (Elt F) (buf.view.loc (thr d L)), (buf.view.loc (thr d L) ↦{fullShare} fb) ∗ ⌜IsChunk G w n (buf.view.read (Elt F) fb)⌝) ∗ src d L G q S)
    ∗ src d L G q (Finset.univ \ S))

/-- No copy into `buf`: the tile holds the buffer, the share of the source and the semaphore at zero. -/
abbrev Idle (q : PosShare TreeShare) (buf : Memref sig .scVector .vmem S256x128 .i32) (sem : DmaSem sig) : sProp 𝕄 :=
  iprop(src d L G q Finset.univ ∗ (∃ fb : Buf (Elt F) (buf.view.loc (thr d L)), buf.view.loc (thr d L) ↦{fullShare} fb) ∗ semVal (thr d L, .dma sem) 0)

/-- Starting the copy of chunk `n`. -/
theorem wp_issue {α : Type} {Q : α → sProp 𝕄} {kk : PUnit → TProg F L α} {w : Fin 32} (n : ℕ) {q : PosShare TreeShare}
    {buf : Memref sig .scVector .vmem S256x128 .i32} {hc : buf.view.Contiguous} {sem : DmaSem sig} {o : Fin 4 → ℕ} {ho}
    (eo : o = ![128 * n, w.val, 0, 0]) {h1 h2 h3} :
    Idle (F := F) d L G q buf sem
      ⊢ iprop((InFl (F := F) d L G w n q buf hc sem -∗ wp frame (wpE (defs₀ (F := F)) 𝒱₀ (thr d L) none) Set.univ (kk ⟨⟩) Q)
        -∗ wp frame (wpE (defs₀ (F := F)) 𝒱₀ (thr d L) none) Set.univ
          (.op (.enqueueDma (chunkSrc o ho) (.here (chunkDst buf hc)) (.dma sem) h1 h2 h3) kk) Q) := by
  unfold Idle
  iintro ⟨Hs, ⟨%fb, Hb⟩, Hv⟩ Hk
  icases (pointsTo_split_subset (Finset.subset_univ (chunkSrc o ho).view.set)).1 $$ Hs with ⟨Hs, Hrest⟩
  iapply (Transfers.wp_dmaLocal EC 𝒱₀ (thr d L) none (none : HIx 1) (chunkDst buf hc).view.dmaCredit rfl (View.dmaCredit_pos _ (by decide))
    (Sd := Finset.univ) (Finset.subset_univ _) (src := chunkSrc o ho) (dst := chunkDst buf hc) (fs := G) (fd := fb)) $$ [Hs Hb Hv]
  · isplitl [Hs]; · iexact Hs
    isplitl [Hb] <;> iassumption
  iintro Hf
  iapply Hk
  unfold InFl
  iexists (chunkSrc o ho).view.set
  isplitl [Hf]
  · iapply (Transfers.Flight_mono EC (thr d L) (D := iprop((buf.view.loc (thr d L) ↦{fullShare} (chunkDst buf hc).view.write (Elt F) fb ((chunkSrc o ho).view.read (Elt F) G) Finset.univ) ∗ src d L G q (chunkSrc o ho).view.set)) (by
      iintro ⟨Hd, Hs⟩
      isplitl [Hd]
      · iexists _; isplitl [Hd]; · iexact Hd
        ipureintro
        exact isChunk_write d L G w n buf hc o ho eo fb
      · iexact Hs)) $$ Hf
  · iexact Hrest

/-- Waiting for the copy of chunk `n`. -/
theorem wp_wait {α : Type} {Q : α → sProp 𝕄} {kk : PUnit → TProg F L α} {w : Fin 32} {n : ℕ} {q : PosShare TreeShare}
    {buf : Memref sig .scVector .vmem S256x128 .i32} {hc : buf.view.Contiguous} {sem : DmaSem sig} {o : Fin 4 → ℕ} {ho} {h1 h2}
    {O : CellTallies nD τ sig (HIx 1)} {W : Waits sig (HIx 1)} :
    iprop(InFl (F := F) d L G w n q buf hc sem ∗ owes (thr d L) O W ∗ MayWait (thr d L) (.dma sem) none O)
      ⊢ iprop((∀ fb : Buf (Elt F) (buf.view.loc (thr d L)), ⌜IsChunk G w n (buf.view.read (Elt F) fb)⌝
          -∗ iprop((buf.view.loc (thr d L) ↦{fullShare} fb) ∗ src d L G q Finset.univ ∗ semVal (thr d L, .dma sem) 0 ∗ owes (thr d L) O (insert (SemLoc.dma sem, none) W))
          -∗ wp frame (wpE (defs₀ (F := F)) 𝒱₀ (thr d L) none) Set.univ (kk ⟨⟩) Q)
        -∗ wp frame (wpE (defs₀ (F := F)) 𝒱₀ (thr d L) none) Set.univ
          (.op (.waitDma2 sem (chunkSrc o ho) (chunkDst buf hc) h1 h2) kk) Q) := by
  unfold InFl
  iintro ⟨⟨%S, Hf, Hrest⟩, HO, Hm⟩ Hk
  iapply (Transfers.wp_waitLocalO EC 𝒱₀ (thr d L) none (none : HIx 1) rfl) $$ [Hf HO Hm]
  · isplitl [Hf]; · iexact Hf
    isplitl [HO] <;> iassumption
  iintro ⟨⟨⟨%fb, Hb, %hfb⟩, Hs⟩, Hv, HO⟩
  iapply Hk $$ %fb [] [-]
  · ipureintro; exact hfb
  isplitl [Hb]; · iexact Hb
  isplitl [Hs Hrest]
  · iapply (pointsTo_split_subset (Finset.subset_univ S)).2
    isplitl [Hs] <;> iassumption
  isplitl [Hv] <;> iassumption

end Cert.Proof.Hist

end
-- ==== Proof.Trip.lean ====
/-
  The outer loop. A trip waits for two chunks, counts each and starts the copies of the next two.
-/
module

public import proofs.«01_k».proof.Proof.Cell
public import proofs.«01_k».proof.Proof.Chunk

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords) (G : Cells)

theorem cond1_iff : ∀ t : Fin k0_t1_loop.trips, k0_cond1 t = 1#1 ↔ t.val + 1 < 16 := by decide +kernel
theorem cond2_iff : ∀ t : Fin k0_t1_loop.trips, k0_cond2 t = 1#1 ↔ t.val + 1 < 16 := by decide +kernel

/-- One side of the double buffer: a copy of chunk `n` under way, or none. -/
def Side (w : Fin 32) (n : ℕ) (q : PosShare TreeShare) (buf : Memref sig .scVector .vmem S256x128 .i32) (hc : buf.view.Contiguous) (sem : DmaSem sig)
    (live : Prop) [Decidable live] : sProp 𝕄 :=
  if live then InFl d L G w n q buf hc sem else Idle d L G q buf sem

theorem Side_live {w : Fin 32} {n : ℕ} {q : PosShare TreeShare} {buf : Memref sig .scVector .vmem S256x128 .i32} {hc : buf.view.Contiguous} {sem : DmaSem sig}
    {live : Prop} [Decidable live] (h : live) : (Side (F := F) d L G w n q buf hc sem live) = InFl d L G w n q buf hc sem := if_pos h

theorem Side_done {w : Fin 32} {n : ℕ} {q : PosShare TreeShare} {buf : Memref sig .scVector .vmem S256x128 .i32} {hc : buf.view.Contiguous} {sem : DmaSem sig}
    {live : Prop} [Decidable live] (h : ¬live) : (Side (F := F) d L G w n q buf hc sem live) = Idle d L G q buf sem := if_neg h

/-- Starting the next copy if there is one. -/
theorem wp_start {α : Type} {Q : α → sProp 𝕄} {p : TProg F L α} {w : Fin 32} (n : ℕ) {q : PosShare TreeShare}
    {buf : Memref sig .scVector .vmem S256x128 .i32} {hc : buf.view.Contiguous} {sem : DmaSem sig} {o : Fin 4 → ℕ} {c : BitVec 1}
    {ho : c = 1#1 → ∀ a, o a + S128x1x2x128.size a ≤ S4096x32x2x128.size a} (live : Prop) [Decidable live] (hl : c = 1#1 ↔ live)
    (eo : o = ![128 * n, w.val, 0, 0]) {h1 : ∀ h : c = 1#1, (chunkSrc o (ho h)).view.WordExact} {h2 h3} :
    Idle (F := F) d L G q buf sem
      ⊢ iprop((Side (F := F) d L G w n q buf hc sem live -∗ wp frame (wpE (defs₀ (F := F)) 𝒱₀ (thr d L) none) Set.univ p Q)
        -∗ wp frame (wpE (defs₀ (F := F)) 𝒱₀ (thr d L) none) Set.univ
          (if h : c = 1#1 then (.op (.enqueueDma (chunkSrc o (ho h)) (.here (chunkDst buf hc)) (.dma sem) (h1 h) h2 h3) fun _ => p) else p) Q) := by
  by_cases h : c = 1#1
  · rw [dif_pos h, Side_live d L G (hl.mp h)]
    exact wp_issue d L G (kk := fun _ => p) n eo
  · rw [dif_neg h, Side_done d L G (fun hh => h (hl.mpr hh))]
    iintro HI Hk
    iapply Hk; iexact HI

/-- Before trip `g` the table counts the first `256 * g` cells, and chunks `2 * g` and `2 * g + 1` are being copied. -/
def Inv (qA qB : PosShare TreeShare) (O : CellTallies nD τ sig (HIx 1)) (W : Waits sig (HIx 1)) (g : ℕ) : sProp 𝕄 :=
  iprop(levAts (K (F := F)).L (K (F := F)).lev
    ∗ (hT.view.loc (thr d L) ↦{fullShare} hist G (wid L) (256 * g) 0)
    ∗ Side d L G (wid L) (2 * g) qA bA (Memref.isWhole_whole _).contiguous semA (g < 16)
    ∗ Side d L G (wid L) (2 * g + 1) qB bB (Memref.isWhole_whole _).contiguous semB (g < 16)
    ∗ ∃ W', ⌜∀ p ∈ W', p ∈ W ∨ p.2 = none⌝ ∗ owes (thr d L) O W')

theorem waits_insert {W W' : Waits sig (HIx 1)} {s : SemLoc sig} (h : ∀ p ∈ W', p ∈ W ∨ p.2 = none) :
    ∀ p ∈ insert (s, (none : HIx 1)) W', p ∈ W ∨ p.2 = none := by
  intro p hp
  rcases Finset.mem_insert.mp hp with rfl | hp
  · exact .inr rfl
  · exact h p hp

theorem chunk_off {w : Fin 32} {L : grid0.Coords} (hw : w = wid L) {o : Fin 4 → ℕ} {a n : ℕ} (e : o = ![a, 2 * (L 1).val + (L 0).val, 0, 0]) (ha : a = 128 * n) :
    o = ![128 * n, w.val, 0, 0] := by
  subst hw ha; exact e

/-- One trip of the outer loop: both chunks are waited for and counted, and the next two copies started. -/
theorem wp_trip (qA qB : PosShare TreeShare) (hG : ∀ i, (G i).toNat < 8) (O : CellTallies nD τ sig (HIx 1)) (W : Waits sig (HIx 1)) (hO : ∀ g, O g none = 0)
    (t : Fin k0_t1_loop.trips) (acc : BitVec 32) :
    Inv (F := F) d L G qA qB O W t.val
      ⊢ wp frame (wpE (defs₀ (F := F)) 𝒱₀ (thr d L) none) Set.univ (k0_t1_body (F := F) L gV (Memref.isWhole_whole _) oV (Memref.isWhole_whole _) bA (Memref.isWhole_whole _) bB (Memref.isWhole_whole _) hT (Memref.isWhole_whole _) cc0_scratch3 cc0_scoped0
          k0_pay19 k0_pay21 k0_pay22 k0_pay23 k0_pay24 k0_pay25 k0_pay26 k0_pay27 k0_pay28 t acc) (fun _ => Inv (F := F) d L G qA qB O W (t.val + 1)) := by
  have ht : t.val < 16 := lt_of_lt_of_le t.isLt k0_t1_abs.2.1
  unfold k0_t1_body
  rw [wp_bind, k0_part5_eq_skeleton]; unfold k0_part5_skel
  simp only [Prog.lift, Prog.bind_op, Prog.bind_ret, Prog.pure_eq_ret, bind_assoc]
  unfold Inv
  rw [Side_live d L G ht, Side_live d L G ht]
  iintro ⟨#Hlv, Hh, HA, HB, %W₁, %hW₁, HO⟩
  -- the even chunk
  iapply (wp_wait d L G) $$ [HA HO]
  · isplitl [HA]; · iexact HA
    isplitl [HO]; · iexact HO
    iapply ((K (F := F)).mayWait_none (SemLoc.dma semA) hO); iexact Hlv
  iintro %fa %hfa ⟨Ha, HsA, HvA, HO⟩
  iapply (wp_loopA d L G (wid L) (n := 2 * t.val) (by omega) hG hfa) $$ [Ha Hh]
  · isplitl [Ha]; · iexact Ha
    rw [show 128 * (2 * t.val) = 256 * t.val by omega]
    isplitl [Hh]; · iexact Hh
    iempintro
  iintro ⟨Ha, Hh, -⟩
  iapply (wp_start d L G (w := wid L) (2 * (t.val + 1)) (q := qA) (t.val + 1 < 16) (cond1_iff t) (chunk_off rfl (k0_off20_eq L t) (by omega))) $$ [Ha HsA HvA]
  · isplitl [HsA]; · iexact HsA
    isplitl [Ha]; · iexists fa; iexact Ha
    iexact HvA
  iintro HA
  -- the odd chunk
  iapply (wp_wait d L G) $$ [HB HO]
  · isplitl [HB]; · iexact HB
    isplitl [HO]; · iexact HO
    iapply ((K (F := F)).mayWait_none (SemLoc.dma semB) hO); iexact Hlv
  iintro %fb %hfb ⟨Hb, HsB, HvB, HO⟩
  iapply (wp_loopB d L G (wid L) (n := 2 * t.val + 1) (by omega) hG hfb) $$ [Hb Hh]
  · isplitl [Hb]; · iexact Hb
    isplitl [Hh]; · iexact Hh
    iempintro
  iintro ⟨Hb, Hh, -⟩
  rw [wp_ret]
  imodintro
  iapply (wp_start d L G (w := wid L) (2 * (t.val + 1) + 1) (q := qB) (t.val + 1 < 16) (cond2_iff t) (chunk_off rfl (k0_off38_eq L t) (by omega))) $$ [Hb HsB HvB]
  · isplitl [HsB]; · iexact HsB
    isplitl [Hb]; · iexists fb; iexact Hb
    iexact HvB
  iintro HB
  rw [wp_ret]
  imodintro
  isplitr; · iexact Hlv
  isplitl [Hh]
  · rw [show 128 * (2 * t.val + 1 + 1) = 256 * (t.val + 1) by omega]; iexact Hh
  isplitl [HA]; · iexact HA
  isplitl [HB]; · iexact HB
  iexists (insert (SemLoc.dma semB, none) (insert (SemLoc.dma semA, none) W₁)); isplitr; · ipureintro; exact waits_insert (waits_insert hW₁)
  iexact HO

end Cert.Proof.Hist

end
-- ==== Proof.ZeroRun.lean ====
/-
  The 1024 zero stores as the kernel prints them.
-/
module

public import proofs.«01_k».proof.Proof.Zero

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords)

/-- What the kernel's first part returns: the tile's number and the constant vectors. -/
abbrev consts (L : grid0.Coords) : Σ' (_ : BitVec 32) (_ : IVec S16 32) (_ : IVec S16 32) (_ : IVec S16 32) (_ : IVec S16 32) (_ : IVec S16 32) (_ : IVec S16 32) (_ : IVec S16 32) (_ : IVec S16 32) (_ : IVec S16 32), IVec S16 32 :=
  ⟨Scalar.addi (Scalar.muli (BitVec.ofNat 32 (L 1).val) 2#32) (BitVec.ofNat 32 (L 0).val), k0_pay19, k0_pay20, k0_pay21, k0_pay22, k0_pay23, k0_pay24, k0_pay25, k0_pay26, k0_pay27, k0_pay28⟩

/-- A part that is ten zero stores. -/
theorem zero_step {α : Type} {Q : α → sProp 𝕄} {R : sProp 𝕄} {n : ℕ} {prog : TProg F L PUnit} {k : PUnit → TProg F L α} (hn : n + 10 ≤ 1024)
    (h : prog = zeros L n 10)
    (hk : iprop(Zeroed d L (n + 10) ∗ R) ⊢ wp frame (wpE (defs₀ (F := F)) 𝒱₀ (thr d L) none) Set.univ (k ⟨⟩) Q) :
    iprop(Zeroed (F := F) d L n ∗ R) ⊢ wp frame (wpE (defs₀ (F := F)) 𝒱₀ (thr d L) none) Set.univ (prog >>= k) Q :=
  h ▸ wp_zeros d L k 10 n hn hk

/-- The kernel's first part: 594 zero stores. -/
theorem wp_part109 {Q : (Σ' (_ : BitVec 32) (_ : IVec S16 32) (_ : IVec S16 32) (_ : IVec S16 32) (_ : IVec S16 32) (_ : IVec S16 32) (_ : IVec S16 32) (_ : IVec S16 32) (_ : IVec S16 32) (_ : IVec S16 32), IVec S16 32) → sProp 𝕄} {R : sProp 𝕄} (hk : iprop(Zeroed (F := F) d L 594 ∗ R) ⊢ Q (consts L)) :
    iprop(Zeroed (F := F) d L 0 ∗ R) ⊢ wp frame (wpE (defs₀ (F := F)) 𝒱₀ (thr d L) none) Set.univ
      (k0_part109 (F := F) L gV (Memref.isWhole_whole _) oV (Memref.isWhole_whole _) bA (Memref.isWhole_whole _) bB (Memref.isWhole_whole _) hT (Memref.isWhole_whole _) cc0_scratch3 cc0_scoped0) Q := by
  rw [k0_part109_eq_skeleton]; unfold k0_part109_skel
  have e : k0_part6 (F := F) L gV (Memref.isWhole_whole _) oV (Memref.isWhole_whole _) bA (Memref.isWhole_whole _) bB (Memref.isWhole_whole _) hT (Memref.isWhole_whole _) cc0_scratch3 cc0_scoped0
      = zeros L 0 4 >>= fun _ => pure (consts L) := rfl
  rw [e, bind_assoc]
  refine wp_zeros d L _ 4 0 (by omega) ?_
  rw [pure_bind]
  repeat (refine zero_step d L (by omega) rfl ?_)
  refine hk.trans ?_
  rw [wp_pure]
  iintro H; imodintro; iexact H

/-- The rest of the zero stores, up to the start of the first copy. -/
theorem wp_part110 {Q : PUnit → sProp 𝕄} {R : sProp 𝕄}
    (hk : iprop(Zeroed (F := F) d L 1024 ∗ R) ⊢ wp frame (wpE (defs₀ (F := F)) 𝒱₀ (thr d L) none) Set.univ
      (Prog.lift (.enqueueDma ((gV.slice (Rect.unit (s := S4096x32x2x128) (k0_off1 L) S128x1x2x128.size (k0_off1_inb L)) (fun _ => rfl)).squeeze S128x2x128 squeezes_S128x1x2x128_S128x2x128)
        (.here (bA.reshape S128x2x128 reshapes_S256x128_S128x2x128.1 reshapes_S256x128_S128x2x128.2 (Memref.isWhole_whole _).contiguous)) (.dma semA)
        ((View.wordExact_bits rfl).reshape _ _) ((Memref.isWhole_whole _).wordExact.reshape _ _) ⟨Or.inl rfl, trivial⟩)) Q) :
    iprop(Zeroed (F := F) d L 594 ∗ R) ⊢ wp frame (wpE (defs₀ (F := F)) 𝒱₀ (thr d L) none) Set.univ
      (k0_part110 (F := F) L gV (Memref.isWhole_whole _) oV (Memref.isWhole_whole _) bA (Memref.isWhole_whole _) bB (Memref.isWhole_whole _) hT (Memref.isWhole_whole _) cc0_scratch3 cc0_scoped0 k0_pay20) Q := by
  rw [k0_part110_eq_skeleton]; unfold k0_part110_skel
  repeat (refine zero_step d L (by omega) rfl ?_)
  exact hk

end Cert.Proof.Hist

end
-- ==== Proof.Tile.lean ====
/-
  One tile's whole run: from its shares of the cells and its rows of the result to those rows holding its counts.
-/
module

public import proofs.«01_k».proof.Proof.Trip
public import proofs.«01_k».proof.Proof.ZeroRun

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords) (G : Cells)

/-- The result as the kernel should leave it: row `r` is sample `r % 128` of tile `r / 128`, column `v` the number of its cells numbered `v`. -/
def outOf (G : Cells) : S4096x128.Idx → BitVec 32 :=
  fun x => BitVec.ofNat 32 (hits G ⟨(x 0).val / 128, by have := idx2_lt0 x; omega⟩ 4096 ⟨(x 0).val % 128, by omega⟩ (x 1).val)

/-- The tile's 128 rows of the result. -/
abbrev outV : Memref sig .scVector .hbm S128x128 .i32 :=
  oV.slice (Rect.unit (s := S4096x128) (k0_off39 L) S128x128.size (k0_off39_inb L)) (fun _ => rfl)
abbrev rowsOf : Finset S4096x128.Idx := (outV L).view.set

omit [FloatOps F] in
/-- Where the tile's row `s` lies in the result. -/
theorem outV_emb (x : S128x128.Idx) : ((outV L).view.emb x 0).val = 128 * (wid L).val + (x 0).val ∧ ((outV L).view.emb x 1).val = (x 1).val := by
  have h0 : ((outV L).view.emb x 0).val = k0_off39 L 0 + 1 * (x 0).val := rfl
  have h1 : ((outV L).view.emb x 1).val = k0_off39 L 1 + 1 * (x 1).val := rfl
  rw [h0, h1, k0_off39_eq]
  constructor
  · show 256 * (L 1).val + 128 * (L 0).val + 1 * (x 0).val = 128 * (2 * (L 1).val + (L 0).val) + (x 0).val
    omega
  · show 0 + 1 * (x 1).val = (x 1).val
    omega

omit [FloatOps F] in
theorem outOf_row (x : S128x128.Idx) : outOf G ((outV L).view.emb x) = hist G (wid L) 4096 0 x := by
  obtain ⟨e0, e1⟩ := outV_emb L x
  have hx : (x 0).val < 128 := idx2_lt0 x
  unfold outOf hist
  rw [if_neg (by omega), e1]
  have ea : ((outV L).view.emb x 0).val / 128 = (wid L).val := by rw [e0]; omega
  have eb : ((outV L).view.emb x 0).val % 128 = (x 0).val := by rw [e0]; omega
  congr 2
  · exact Fin.ext ea
  · exact Fin.ext eb

omit [FloatOps F] in
/-- The table copied out is the tile's rows of `outOf`. -/
theorem rows_written (fo : Buf (Elt F) ((outV L).view.loc (thr d L))) :
    ((outV L).view.loc (thr d L) ↦[rowsOf L]{fullShare} (outV L).view.write (Elt F) fo (hT.view.read (Elt F) (hist G (wid L) 4096 0)) Finset.univ : sProp 𝕄)
      = (outV L).view.loc (thr d L) ↦[rowsOf L]{fullShare} outOf G := by
  refine pointsTo_congr fun i hi => ?_
  obtain ⟨x, -, rfl⟩ := Finset.mem_map.mp hi
  refine (View.write_emb_of_mem (v := (outV L).view) (Val := Elt F) fo _ (Finset.mem_univ x)).trans ?_
  exact (outOf_row L G x).symm

omit [FloatOps F] in
theorem table_set (f : Buf (Elt F) ((thr d L).loc cc0_scratch2)) :
    (hT.view.loc (thr d L) ↦[hT.view.set]{fullShare} f : sProp 𝕄) = (thr d L).loc cc0_scratch2 ↦{fullShare} f := by
  simp only [Memref.view_whole, View.set_whole]

abbrev cellA : GSem nD τ sig := (thr d L, .dma semA)
abbrev cellB : GSem nD τ sig := (thr d L, .dma semB)
abbrev cellO : GSem nD τ sig := (thr d L, .dma semO)

omit [FloatOps F] in
/-- The three semaphores the tile uses are among its own. -/
theorem ownSems0_tile :
    (ownSems0 (thr d L) : sProp 𝕄)
      = iprop(semVal (cellA d L) 0 ∗ semVal (cellB d L) 0 ∗ semVal (cellO d L) 0
          ∗ bigSep ((((ownCells (thr d L)).erase (cellA d L)).erase (cellB d L)).erase (cellO d L)) fun g => semVal g 0) := by
  unfold SparseCore.Cfg.ownSems0
  rw [SparseCore.bigSep_erase' ((mem_ownCells (g := cellA d L)).mpr ⟨rfl, by
      show (SemLoc.dma semA : SemLoc sig).isScoped .scVector = true; decide⟩),
    SparseCore.bigSep_erase' (Finset.mem_erase.mpr ⟨fun e => absurd (Prod.mk.inj e).2 (by decide), (mem_ownCells (g := cellB d L)).mpr ⟨rfl, by
      show (SemLoc.dma semB : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide),
      (mem_ownCells (g := cellO d L)).mpr ⟨rfl, by show (SemLoc.dma semO : SemLoc sig).isScoped .scVector = true; decide⟩⟩⟩)]

omit [FloatOps F] in
/-- The two chunk buffers and the table are among the tile's own memories. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have own (b : Ref sig .scVector) (hb : ((Proc.scVector (cV L) (jV L)).devRef b).owner = .proc (.scVector (cV L) (jV L))) :
      (Proc.scVector (cV L) (jV L)).devRef b ∈ ownRefs (τ := τ) (.scVector (cV L) (jV L)) :=
    SparseCore.Cfg.mem_ownRefs_of_owner (p := Proc.scVector (cV L) (jV L)) hb
  have ne {a b : Ref sig .scVector} (h : a ≠ b) : (Proc.scVector (cV L) (jV L)).devRef a ≠ (Proc.scVector (cV L) (jV L)).devRef b :=
    fun e => h (Proc.devRef_injective _ e)
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩)]

/-- A table any contents of which are held has no zero counted yet. -/
theorem zeroed_start (f : Buf (Elt F) ((thr d L).loc cc0_scratch2)) : ((thr d L).loc cc0_scratch2 ↦{fullShare} f : sProp 𝕄) ⊢ Zeroed d L 0 := by
  unfold Zeroed
  iintro H
  iexists f; isplitl [H]; · iexact H
  ipureintro; intro x hx; omega

/-- A table zeroed throughout is the table before any cell. -/
theorem zeroed_done : (Zeroed (F := F) d L 1024) ⊢ (hT.view.loc (thr d L) ↦{fullShare} hist G (wid L) (256 * 0) 0 : sProp 𝕄) := by
  unfold Zeroed
  iintro ⟨%f, H, %hf⟩
  have e : f = hist G (wid L) (256 * 0) 0 := by
    rw [Nat.mul_zero, hist_start]
    refine funext fun x => hf x ?_
    have h0 : (x 0).val < 128 := (x 0).isLt
    have h1 : (x 1).val < 128 := (x 1).isLt
    omega
  rw [← e]
  iexact H

/-- What a tile is given: two shares of the cells, and its rows of the result at some contents. -/
abbrev Given (qA qB : PosShare TreeShare) (fo : Buf (Elt F) (oLoc d)) : sProp 𝕄 :=
  iprop(src d L G qA Finset.univ ∗ src d L G qB Finset.univ ∗ (outV L).view.loc (thr d L) ↦[rowsOf L]{fullShare} fo)

attribute [local irreducible] k0_pay19 k0_pay20 k0_pay21 k0_pay22 k0_pay23 k0_pay24 k0_pay25 k0_pay26 k0_pay27 k0_pay28

/-- The rest of the zero stores and the start of the first copy, followed by the rest of the kernel. -/
theorem wp_rest {α : Type} {Q : α → sProp 𝕄} {qA : PosShare TreeShare} {R : sProp 𝕄} {kk : PUnit → TProg F L α}
    (hk : iprop((hT.view.loc (thr d L) ↦{fullShare} hist G (wid L) (256 * 0) 0)
        ∗ InFl d L G (wid L) 0 qA bA (Memref.isWhole_whole _).contiguous semA ∗ R)
      ⊢ wp frame (wpE (defs₀ (F := F)) 𝒱₀ (thr d L) none) Set.univ (kk ⟨⟩) Q) :
    iprop(Zeroed (F := F) d L 594 ∗ Idle d L G qA bA semA ∗ R) ⊢ wp frame (wpE (defs₀ (F := F)) 𝒱₀ (thr d L) none) Set.univ
      (k0_part110 (F := F) L gV (Memref.isWhole_whole _) oV (Memref.isWhole_whole _) bA (Memref.isWhole_whole _) bB (Memref.isWhole_whole _) hT (Memref.isWhole_whole _) cc0_scratch3 cc0_scoped0 k0_pay20 >>= kk) Q := by
  rw [wp_bind]
  refine wp_part110 d L ?_
  iintro ⟨Hh, HA, HR⟩
  iapply (wp_issue d L G (w := wid L) 0 (k0_off1_eq L)) $$ HA
  iintro HA
  rw [wp_ret]; imodintro
  iapply hk
  isplitl [Hh]
  · iapply (zeroed_done (F := F) d L G); iexact Hh
  isplitl [HA] <;> iassumption

abbrev bodyOf : TProg F L PUnit :=
  cc0_body L gV (Memref.isWhole_whole _) oV (Memref.isWhole_whole _) bA (Memref.isWhole_whole _) bB (Memref.isWhole_whole _) hT (Memref.isWhole_whole _) cc0_scratch3 cc0_scoped0

/-- What follows the zero stores and the start of the first copy. -/
def tailOf (v3 v6 v8 v10 v12 v14 v16 v18 v20 : IVec S16 32) : TProg F L PUnit :=
  .op (.enqueueDma (chunkSrc (k0_off2 L) (k0_off2_inb L)) (.here (chunkDst bB (Memref.isWhole_whole _).contiguous)) (.dma semB)
      ((View.wordExact_bits rfl).reshape _ _) ((Memref.isWhole_whole _).wordExact.reshape _ _) ⟨Or.inl rfl, trivial⟩) fun _ =>
    Scf.Loop.for k0_t1_loop k0_t1_ok 0#32 (k0_t1_body (F := F) L gV (Memref.isWhole_whole _) oV (Memref.isWhole_whole _) bA (Memref.isWhole_whole _) bB (Memref.isWhole_whole _) hT (Memref.isWhole_whole _) cc0_scratch3 cc0_scoped0 v3 v6 v8 v10 v12 v14 v16 v18 v20) >>= fun _ =>
      .op (.enqueueDma hT (.here (outV L)) (.dma semO) (Memref.isWhole_whole _).wordExact (View.wordExact_bits rfl) ⟨Or.inl rfl, trivial⟩) fun _ =>
        .op (.waitDma2 semO hT (outV L) (Memref.isWhole_whole _).wordExact (View.wordExact_bits rfl)) fun _ => .ret ⟨⟩

theorem body_eq : bodyOf (F := F) L = k0_part109 (F := F) L gV (Memref.isWhole_whole _) oV (Memref.isWhole_whole _) bA (Memref.isWhole_whole _) bB (Memref.isWhole_whole _) hT (Memref.isWhole_whole _) cc0_scratch3 cc0_scoped0 >>= fun c => k0_part110 (F := F) L gV (Memref.isWhole_whole _) oV (Memref.isWhole_whole _) bA (Memref.isWhole_whole _) bB (Memref.isWhole_whole _) hT (Memref.isWhole_whole _) cc0_scratch3 cc0_scoped0 c.2.2.1
    >>= fun _ => tailOf L c.2.1 c.2.2.2.1 c.2.2.2.2.1 c.2.2.2.2.2.1 c.2.2.2.2.2.2.1 c.2.2.2.2.2.2.2.1 c.2.2.2.2.2.2.2.2.1 c.2.2.2.2.2.2.2.2.2.1 c.2.2.2.2.2.2.2.2.2.2 := by
  unfold bodyOf
  rw [cc0_body_eq_skeleton]; unfold cc0_body_skel tailOf
  rfl

/-- The zero stores and the start of the first copy, followed by the rest of the kernel. -/
theorem wp_front {Q : PUnit → sProp 𝕄} {qA : PosShare TreeShare} {R : sProp 𝕄}
    (hk : iprop((hT.view.loc (thr d L) ↦{fullShare} hist G (wid L) (256 * 0) 0)
        ∗ InFl d L G (wid L) 0 qA bA (Memref.isWhole_whole _).contiguous semA ∗ R)
      ⊢ wp frame (wpE (defs₀ (F := F)) 𝒱₀ (thr d L) none) Set.univ (tailOf (F := F) L k0_pay19 k0_pay21 k0_pay22 k0_pay23 k0_pay24 k0_pay25 k0_pay26 k0_pay27 k0_pay28) Q) :
    iprop(Zeroed (F := F) d L 0 ∗ Idle d L G qA bA semA ∗ R) ⊢ wp frame (wpE (defs₀ (F := F)) 𝒱₀ (thr d L) none) Set.univ (bodyOf (F := F) L) Q := by
  rw [body_eq]
  have h := wp_rest (F := F) (qA := qA) (R := R) (Q := Q) d L G (kk := fun _ => tailOf L k0_pay19 k0_pay21 k0_pay22 k0_pay23 k0_pay24 k0_pay25 k0_pay26 k0_pay27 k0_pay28) hk
  rw [wp_bind]
  refine wp_part109 d L ?_
  generalize hc : consts L = c
  have e0 : c.2.1 = k0_pay19 := by rw [← hc]
  have e1 : c.2.2.1 = k0_pay20 := by rw [← hc]
  have e2 : c.2.2.2.1 = k0_pay21 := by rw [← hc]
  have e3 : c.2.2.2.2.1 = k0_pay22 := by rw [← hc]
  have e4 : c.2.2.2.2.2.1 = k0_pay23 := by rw [← hc]
  have e5 : c.2.2.2.2.2.2.1 = k0_pay24 := by rw [← hc]
  have e6 : c.2.2.2.2.2.2.2.1 = k0_pay25 := by rw [← hc]
  have e7 : c.2.2.2.2.2.2.2.2.1 = k0_pay26 := by rw [← hc]
  have e8 : c.2.2.2.2.2.2.2.2.2.1 = k0_pay27 := by rw [← hc]
  have e9 : c.2.2.2.2.2.2.2.2.2.2 = k0_pay28 := by rw [← hc]
  rw [e0, e1, e2, e3, e4, e5, e6, e7, e8, e9]
  convert h using 2

/-- The tile's run, from its table at any contents: the table, the two buffers and the semaphores come back, and the tile's
    rows of the result hold the counts. -/
theorem tile_run (qA qB : PosShare TreeShare) (fo : Buf (Elt F) (oLoc d)) (hG : ∀ i, (G i).toNat < 8)
    (O : CellTallies nD τ sig (HIx 1)) (W : Waits sig (HIx 1)) (hO : ∀ g, O g none = 0) :
    iprop(Zeroed (F := F) d L 0 ∗ (Idle d L G qA bA semA ∗ levAts (K (F := F)).L (K (F := F)).lev ∗ Idle d L G qB bB semB
        ∗ ((outV L).view.loc (thr d L) ↦[rowsOf L]{fullShare} fo) ∗ semVal (cellO d L) 0 ∗ owes (thr d L) O W))
      ⊢ wp frame (wpE (defs₀ (F := F)) 𝒱₀ (thr d L) none) Set.univ (bodyOf (F := F) L)
          fun _ => iprop((∃ f, (thr d L).loc cc0_scratch2 ↦{fullShare} f) ∗ Idle d L G qA bA semA ∗ Idle d L G qB bB semB
            ∗ ((outV L).view.loc (thr d L) ↦[rowsOf L]{fullShare} outOf G) ∗ semVal (cellO d L) 0
            ∗ ∃ W', ⌜∀ p ∈ W', p ∈ W ∨ p.2 = none⌝ ∗ owes (thr d L) O W') := by
  refine wp_front d L G ?_
  unfold tailOf
  iintro ⟨Hh, HA, #Hlv, HB, Ho, HvO, HO⟩
  iapply (wp_issue d L G (w := wid L) 1 (k0_off2_eq L)) $$ HB
  iintro HB
  iapply (Scf.wp_for_bind frame (wpE (defs₀ (F := F)) 𝒱₀ (thr d L) none) Set.univ _ _ _ k0_t1_ok 0#32 _ (fun g _ => Inv (F := F) d L G qA qB O W g)
    (fun t acc => wp_trip d L G qA qB hG O W hO t acc)) $$ [Hh HA HB HO]
  · unfold Inv
    rw [Side_live d L G (show 0 < 16 by decide), Side_live d L G (show 0 < 16 by decide)]
    isplitr; · iexact Hlv
    isplitl [Hh]; · iexact Hh
    isplitl [HA]; · iexact HA
    isplitl [HB]; · iexact HB
    iexists W; isplitr; · ipureintro; exact fun p hp => .inl hp
    iexact HO
  iintro %acc HI
  have hend : (Inv (F := F) d L G qA qB O W k0_t1_loop.trips) ⊢ iprop((hT.view.loc (thr d L) ↦{fullShare} hist G (wid L) 4096 0)
      ∗ Idle d L G qA bA semA ∗ Idle d L G qB bB semB ∗ ∃ W', ⌜∀ p ∈ W', p ∈ W ∨ p.2 = none⌝ ∗ owes (thr d L) O W') := by
    rw [show k0_t1_loop.trips = 16 by decide +kernel]
    unfold Inv
    rw [Side_done d L G (show ¬ 16 < 16 by decide), Side_done d L G (show ¬ 16 < 16 by decide)]
    exact sep_elim_right
  ihave H := hend $$ HI
  icases H with ⟨Hh, ⟨HsA, Ha, HvA⟩, ⟨HsB, Hb, HvB⟩, %W₁, %hW₁, HO⟩
  iapply (Transfers.wp_dmaLocal EC 𝒱₀ (thr d L) none (none : HIx 1) (outV L).view.dmaCredit rfl (View.dmaCredit_pos _ (by decide))
    (Sd := rowsOf L) (Finset.Subset.refl _) (src := hT) (dst := outV L) (q := fullShare) (fs := hist G (wid L) 4096 0) (fd := fo)) $$ [Hh Ho HvO]
  · isplitl [Hh]
    · iapply (Entails.of_eq (table_set (F := F) d L _).symm) $$ Hh
    isplitl [Ho] <;> iassumption
  iintro Hf
  iapply (Transfers.wp_waitLocalO EC 𝒱₀ (thr d L) none (none : HIx 1) rfl) $$ [Hf HO]
  · isplitl [Hf]; · iexact Hf
    isplitl [HO]; · iexact HO
    iapply ((K (F := F)).mayWait_none (SemLoc.dma semO) hO); iexact Hlv
  iintro ⟨⟨Ho, Hh⟩, HvO, HO⟩
  rw [wp_ret]; imodintro
  isplitl [Hh]
  · iexists (hist G (wid L) 4096 0)
    iapply (Entails.of_eq (table_set (F := F) d L _)) $$ Hh
  isplitl [HsA Ha HvA]
  · isplitl [HsA]; · iexact HsA
    isplitl [Ha] <;> iassumption
  isplitl [HsB Hb HvB]
  · isplitl [HsB]; · iexact HsB
    isplitl [Hb] <;> iassumption
  isplitl [Ho]
  · iapply (Entails.of_eq (rows_written (F := F) d L G fo)) $$ Ho
  isplitl [HvO]; · iexact HvO
  iexists (insert (SemLoc.dma semO, none) W₁); isplitr
  · ipureintro; exact waits_insert hW₁
  iexact HO

/-- The tile's obligation: it hands back its shares of the cells and its rows of the result, holding the counts. -/
theorem tile_body (hF : (K (F := F)).Facts) (qA qB : PosShare TreeShare) (fo : Buf (Elt F) (oLoc d)) (hG : ∀ i, (G i).toNat < 8)
    (O : CellTallies nD τ sig (HIx 1)) (W : Waits sig (HIx 1)) (hO : ∀ g, O g none = 0) :
    iprop(levAts (K (F := F)).L (K (F := F)).lev ∗ emp ∗ Given d L G qA qB fo
        ∗ scopedBufs (thr d L) ∗ scopedSems0 (thr d L) ∗ owes (thr d L) O W)
      ⊢ wp frame (wpE (defs₀ (F := F)) 𝒱₀ (thr d L) none) Set.univ (bodyOf (F := F) L)
          fun _ => iprop(Given d L G qA qB (outOf G) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_tile, ownBufs_tile]
  iintro ⟨#Hlv, -, ⟨HsA, HsB, Ho⟩, ⟨Ha, Hb, ⟨%fh, Hh⟩, Hbufs⟩, ⟨HvA, HvB, HvO, Hsems⟩, HO⟩
  iapply (wp_wand frame (wpE (defs₀ (F := F)) 𝒱₀ (thr d L) none) Set.univ) $$ [HsA HsB Ho Ha Hb Hh HvA HvB HvO HO]
  · iapply (tile_run d L G qA qB fo hG O W hO)
    isplitl [Hh]
    · iapply (zeroed_start (F := F) d L fh); iexact Hh
    isplitl [HsA Ha HvA]
    · isplitl [HsA]; · iexact HsA
      isplitl [Ha] <;> iassumption
    isplitr; · iexact Hlv
    isplitl [HsB Hb HvB]
    · isplitl [HsB]; · iexact HsB
      isplitl [Hb] <;> iassumption
    isplitl [Ho]; · iexact Ho
    isplitl [HvO] <;> iassumption
  iintro %_ ⟨Hh, ⟨HsA, Ha, HvA⟩, ⟨HsB, Hb, HvB⟩, Ho, HvO, HW⟩
  isplitl [HsA HsB Ho]
  · isplitl [HsA]; · iexact HsA
    isplitl [HsB] <;> iassumption
  isplitl [Ha Hb Hh Hbufs]
  · isplitl [Ha]; · iexact Ha
    isplitl [Hb]; · iexact Hb
    isplitl [Hh] <;> iassumption
  isplitl [HvA HvB HvO Hsems]
  · isplitl [HvA]; · iexact HvA
    isplitl [HvB]; · iexact HvB
    isplitl [HvO] <;> iassumption
  iexact HW

end Cert.Proof.Hist

end
-- ==== Proof.Deal.lean ====
/-
  How the cells and the result are dealt among the thirty-two tiles: of the cells each tile has a share, of the result its rows.
-/
module

public import proofs.«01_k».proof.Proof.Tile

@[expose] public section

noncomputable section

namespace Cert.Proof.Hist

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (G : Cells)

/-- The tile at core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's share of the cells, and its two halves: one for the even chunks' copies, one for the odd chunks'. -/
def qTile (c : Fin 2) (i : Fin 16) : PosShare TreeShare := Transfers.dealOf (Transfers.dealOf fullShare Finset.univ c) Finset.univ i
def qEven (c : Fin 2) (i : Fin 16) : PosShare TreeShare := Transfers.dealOf (qTile c i) (Finset.univ : Finset (Fin 2)) 0
def qOdd (c : Fin 2) (i : Fin 16) : PosShare TreeShare := Transfers.dealOf (qTile c i) (Finset.univ : Finset (Fin 2)) 1

/-- An element of the result is among a tile's rows when its row's sample is one of the tile's. -/
theorem mem_rowsOf (L : grid0.Coords) (x : S4096x128.Idx) : x ∈ rowsOf L ↔ (x 0).val / 128 = (wid L).val := by
  constructor
  · intro h
    obtain ⟨y, -, rfl⟩ := Finset.mem_map.mp h
    have e := (outV_emb L y).1
    have hy : (y 0).val < 128 := idx2_lt0 y
    rw [e]; omega
  · intro h
    have h1 : (x 1).val < 128 := (x 1).isLt
    refine Finset.mem_map.mpr ⟨ix2 (⟨(x 0).val % 128, by omega⟩ : Fin 128) (⟨(x 1).val, h1⟩ : Fin 128), Finset.mem_univ _, ?_⟩
    have e := outV_emb L (ix2 (⟨(x 0).val % 128, by omega⟩ : Fin 128) (⟨(x 1).val, h1⟩ : Fin 128))
    refine funext fun a => Fin.ext ?_
    match a with
    | ⟨0, _⟩ =>
      refine e.1.trans ?_
      show 128 * (wid L).val + (x 0).val % 128 = (x 0).val
      omega
    | ⟨1, _⟩ => exact e.2

/-- Two tiles' rows are disjoint. -/
theorem rows_disjoint : ∀ p ∈ (Finset.univ : Finset (Fin 2 × Fin 16)), ∀ p' ∈ (Finset.univ : Finset (Fin 2 × Fin 16)), p ≠ p' →
    Disjoint (rowsOf (coordsV p.1 p.2)) (rowsOf (coordsV p'.1 p'.2)) := by
  intro p _ p' _ hne
  refine Finset.disjoint_left.mpr fun x h h' => hne ?_
  have e : 2 * p.2.val + p.1.val = 2 * p'.2.val + p'.1.val := ((mem_rowsOf _ x).mp h).symm.trans ((mem_rowsOf _ x).mp h')
  have := p.1.isLt; have := p'.1.isLt
  exact Prod.ext (Fin.ext (by omega)) (Fin.ext (by omega))

/-- The tiles' rows are all the rows. -/
theorem rows_cover : (Finset.univ : Finset (Fin 2 × Fin 16)).biUnion (fun p => rowsOf (coordsV p.1 p.2)) = Finset.univ := by
  refine Finset.eq_univ_iff_forall.mpr fun x => Finset.mem_biUnion.mpr ?_
  have hx : (x 0).val < 4096 := idx2_lt0 x
  refine ⟨(⟨(x 0).val / 128 % 2, by omega⟩, ⟨(x 0).val / 128 / 2, by omega⟩), Finset.mem_univ _, (mem_rowsOf _ x).mpr ?_⟩
  show (x 0).val / 128 = 2 * ((x 0).val / 128 / 2) + (x 0).val / 128 % 2
  omega

/-- The result whole is every tile's rows of it. -/
theorem out_deal (f : Buf (Elt F) (oLoc d)) :
    (oLoc d ↦{fullShare} f : sProp 𝕄)
      = bigSep Finset.univ fun c : Fin 2 => bigSep Finset.univ fun i : Fin 16 => oLoc d ↦[rowsOf (coordsV c i)]{fullShare} f := by
  rw [← bigSep_univ_prod (fun p : Fin 2 × Fin 16 => (oLoc d ↦[rowsOf (coordsV p.1 p.2)]{fullShare} f : sProp 𝕄)),
    ← pointsTo_biUnion Finset.univ (ℓ := oLoc d) (fun p : Fin 2 × Fin 16 => rowsOf (coordsV p.1 p.2)) rows_disjoint, rows_cover]

/-- A tile's share of the cells is its two halves. -/
theorem share_halves (c : Fin 2) (i : Fin 16) :
    (gLoc d ↦{qTile c i} G : sProp 𝕄) = iprop((gLoc d ↦{qEven c i} G) ∗ gLoc d ↦{qOdd c i} G) := by
  rw [Transfers.pointsTo_deal (Finset.univ : Finset (Fin 2)) Finset.univ_nonempty (qTile c i),
    show (Finset.univ : Finset (Fin 2)) = {0, 1} by decide, SparseCore.bigSep_insert' (by decide), bigSep_singleton]
  rfl

/-- The cells whole are every tile's two shares of them. -/
theorem cells_deal :
    (gLoc d ↦{fullShare} G : sProp 𝕄)
      = bigSep Finset.univ fun c : Fin 2 => bigSep Finset.univ fun i : Fin 16 => iprop((gLoc d ↦{qEven c i} G) ∗ gLoc d ↦{qOdd c i} G) := by
  rw [Transfers.pointsTo_deal (Finset.univ : Finset (Fin 2)) Finset.univ_nonempty fullShare]
  refine bigSep_congr fun c _ => ?_
  rw [Transfers.pointsTo_deal (Finset.univ : Finset (Fin 16)) Finset.univ_nonempty]
  exact bigSep_congr fun i _ => share_halves d G c i

/-- What tile `(c, i)` is given, and with the counts what it gives back. -/
abbrev givenTo (fo : Buf (Elt F) (oLoc d)) (c : Fin 2) (i : Fin 16) : sProp 𝕄 :=
  Given d (coordsV c i) G (qEven c i) (qOdd c i) fo

/-- The cells and the result are what all the tiles are given. -/
theorem deal_all (fo : Buf (Elt F) (oLoc d)) :
    (iprop((gLoc d ↦{fullShare} G) ∗ oLoc d ↦{fullShare} fo) : sProp 𝕄)
      = bigSep Finset.univ fun c : Fin 2 => bigSep Finset.univ fun i : Fin 16 => givenTo d G fo c i := by
  rw [cells_deal, out_deal, ← bigSep_sep']
  refine bigSep_congr fun c _ => ?_
  rw [← bigSep_sep']
  refine bigSep_congr fun i _ => ?_
  exact equiv_iff.mp ⟨BI.sep_assoc, BI.sep_assoc'⟩

end Cert.Proof.Hist

end
-- ==== Proof.Launch.lean ====
/-
  The launch: the host's four re-orderings of its argument, then the one call on the thirty-two tiles, and what memory
  holds when the program has ended.
-/
module

public import proofs.«01_k».proof.Proof.Deal

@[expose] public section

noncomputable section

namespace Cert.Proof.Hist

open Cert.KernelIdeal Cert.KernelIdeal.Gen

open Idealize.ShloMosaic Idealize.ShloMosaic.ValueIdx
open Idealize.ShloMosaic.StableHlo (held wp_hlo_within)
open Idealize.ShloMosaic.Rounds
open Idealize.ShloMosaic.SparseCore (V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (m : (ℓ : Loc nD τ sig) → Buf (Elt F) ℓ) (ρ : Dev nD → PrngReg)

/-! ## The host's arrays before the call -/

abbrev rArg : DevRef τ sig := Proc.devRef .tc (main_arg0 : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)

abbrev hostOp0 : HloOp τ sig (Elt F) :=
  StableHlo.unary main_arg0 main_v0 ((transpose S64x64x2x4096 [1,2,3,0] · transposes_S4096x64x64x2_S64x64x2x4096_1_2_3_0) : (⟨S4096x64x64x2, .i32⟩ : BufTy).Contents (Elt F) → (⟨S64x64x2x4096, .i32⟩ : BufTy).Contents (Elt F))
abbrev hostOp1 : HloOp τ sig (Elt F) :=
  StableHlo.reshape main_v0 main_v1 (rfl : (.i32 : EltTy) = .i32) shapeCasts_S64x64x2x4096_S64x64x2x32x128
abbrev hostOp2 : HloOp τ sig (Elt F) :=
  StableHlo.unary main_v1 main_v2 ((transpose S64x64x32x2x128 [0,1,3,2,4] · transposes_S64x64x2x32x128_S64x64x32x2x128_0_1_3_2_4) : (⟨S64x64x2x32x128, .i32⟩ : BufTy).Contents (Elt F) → (⟨S64x64x32x2x128, .i32⟩ : BufTy).Contents (Elt F))
abbrev hostOp3 : HloOp τ sig (Elt F) :=
  StableHlo.reshape main_v2 main_v3 (rfl : (.i32 : EltTy) = .i32) shapeCasts_S64x64x32x2x128_S4096x32x2x128

abbrev V0 (d : Dev nD) : Valuation τ sig (Elt F) := fun b => m (d, b)
abbrev V1 (d : Dev nD) : Valuation τ sig (Elt F) := (hostOp0 (F := F)).result (V0 m d)
abbrev V2 (d : Dev nD) : Valuation τ sig (Elt F) := (hostOp1 (F := F)).result (V1 m d)
abbrev V3 (d : Dev nD) : Valuation τ sig (Elt F) := (hostOp2 (F := F)).result (V2 m d)
abbrev V4 (d : Dev nD) : Valuation τ sig (Elt F) := (hostOp3 (F := F)).result (V3 m d)

/-- The cells as the host lays them out for the tiles. -/
def cells (d : Dev nD) : Cells := V4 m d r3

/-- The host's argument and the arrays it makes from it. -/
abbrev hostBufs : Finset (DevRef τ sig) := {rArg, r0, r1, r2, r3, r4}

/-- Holding the host's arrays is holding each. -/
theorem held_host (d : Dev nD) (W : Valuation τ sig (Elt F)) :
    (held (T d) hostBufs W : sProp 𝕄)
      = iprop(((d, rArg) ↦{fullShare} W rArg) ∗ ((d, r0) ↦{fullShare} W r0) ∗ ((d, r1) ↦{fullShare} W r1) ∗ ((d, r2) ↦{fullShare} W r2)
          ∗ ((d, r3) ↦{fullShare} W r3) ∗ (d, r4) ↦{fullShare} W r4) := by
  unfold held hostBufs
  rw [SparseCore.bigSep_insert' (by decide), SparseCore.bigSep_insert' (by decide), SparseCore.bigSep_insert' (by decide),
    SparseCore.bigSep_insert' (by decide), SparseCore.bigSep_insert' (by decide), bigSep_singleton]

/-- At the start the host holds its arrays. -/
theorem unscoped_held (d : Dev nD) :
    (unscopedBufs d (fun b => m ((SparseCore.T d).loc b)) : sProp 𝕄) = held (T d) hostBufs (V0 m d) := by
  rw [held_host]
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

theorem hostOp0_sub : (hostOp0 (F := F)).bufs ⊆ hostBufs := show ({rArg, r0} : Finset (DevRef τ sig)) ⊆ hostBufs by decide
theorem hostOp1_sub : (hostOp1 (F := F)).bufs ⊆ hostBufs := show ({r0, r1} : Finset (DevRef τ sig)) ⊆ hostBufs by decide
theorem hostOp2_sub : (hostOp2 (F := F)).bufs ⊆ hostBufs := show ({r1, r2} : Finset (DevRef τ sig)) ⊆ hostBufs by decide
theorem hostOp3_sub : (hostOp3 (F := F)).bufs ⊆ hostBufs := show ({r2, r3} : Finset (DevRef τ sig)) ⊆ hostBufs by decide

/-- The host's operations leave its argument. -/
theorem V4_arg (d : Dev nD) : V4 m d rArg = m (d, rArg) := by
  unfold V4 V3 V2 V1
  rw [(hostOp3 (F := F)).result_of_not_mem _ (b := rArg) (show rArg ∉ ({r3} : Finset _) by decide),
    (hostOp2 (F := F)).result_of_not_mem _ (b := rArg) (show rArg ∉ ({r2} : Finset _) by decide),
    (hostOp1 (F := F)).result_of_not_mem _ (b := rArg) (show rArg ∉ ({r1} : Finset _) by decide),
    (hostOp0 (F := F)).result_of_not_mem (V0 m d) (b := rArg) (show rArg ∉ ({r0} : Finset _) by decide)]

/-- The host's operations leave the result. -/
theorem V4_out (d : Dev nD) : V4 m d r4 = m (oLoc d) := by
  unfold V4 V3 V2 V1
  rw [(hostOp3 (F := F)).result_of_not_mem _ (b := r4) (show r4 ∉ ({r3} : Finset _) by decide),
    (hostOp2 (F := F)).result_of_not_mem _ (b := r4) (show r4 ∉ ({r2} : Finset _) by decide),
    (hostOp1 (F := F)).result_of_not_mem _ (b := r4) (show r4 ∉ ({r1} : Finset _) by decide),
    (hostOp0 (F := F)).result_of_not_mem (V0 m d) (b := r4) (show r4 ∉ ({r0} : Finset _) by decide)]

/-! ## What the call hands over -/

/-- To each core what its tiles are given together, and back what they give back. -/
def P : (K (F := F)).Pay (nD := nD) (Val := Elt F) (Name := ℕ) (U := UU) where
  st := fun q d c => match q with | 0 => bigSep Finset.univ fun i : Fin 16 => givenTo d (cells m d) (m (oLoc d)) c i
  dn := fun q d c => match q with | 0 => bigSep Finset.univ fun i : Fin 16 => givenTo d (cells m d) (outOf (cells m d)) c i
  go := fun q d c i => match q with | 0 => givenTo d (cells m d) (m (oLoc d)) c i
  td := fun q d c i => match q with | 0 => givenTo d (cells m d) (outOf (cells m d)) c i
  x := fun _ _ => iprop(emp)

instance P_storable : (P (F := F) m).IsStorable where
  st q d c := match q with
    | 0 => (inferInstance : BI.Storable (upEmb : UEmb _ 𝕄) (bigSep Finset.univ fun i : Fin 16 => givenTo d (cells m d) (m (oLoc d)) c i))
  dn q d c := match q with
    | 0 => (inferInstance : BI.Storable (upEmb : UEmb _ 𝕄) (bigSep Finset.univ fun i : Fin 16 => givenTo d (cells m d) (outOf (cells m d)) c i))
  go q d c i := match q with
    | 0 => (inferInstance : BI.Storable (upEmb : UEmb _ 𝕄) (givenTo d (cells m d) (m (oLoc d)) c i))
  td q d c i := match q with
    | 0 => (inferInstance : BI.Storable (upEmb : UEmb _ 𝕄) (givenTo d (cells m d) (outOf (cells m d)) c i))

/-! ## A tile's task, and a core's share split among its tiles -/

/-- Waiting on no other thread's signal, as a tile's body does, is within what a task may do. -/
theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What a tile runs when it is called. -/
theorem defs₀_tile (c : Fin τ.nSC) (s : Fin τ.nSub) :
    defs₀ (F := F) (.scVector c s) 0 () = SparseCore.onTile hcore0 hsub0 (fun c s => bodyOf (F := F) (coordsV c s)) ⟨⟩ c s := rfl

/-- An entailment, read as one of the library's statements writes it. -/
theorem of_entails {A B : sProp 𝕄} (h : A ⊢ B) : Idealize.SL.BI.Entails A B := h

attribute [local irreducible] cc0_body in
/-- A tile's task, given words below eight: the result's rows left at the counts. -/
theorem tileObl (hG : ∀ d i, (cells m d i).toNat < 8) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, _root_.and_self, ↓reduceDIte]
  exact of_entails ((tile_body d (coordsV ⟨_, hc.1⟩ ⟨_, hc.2⟩) (cells m d) facts (qEven ⟨_, hc.1⟩ ⟨_, hc.2⟩) (qOdd ⟨_, hc.1⟩ ⟨_, hc.2⟩) (m (oLoc d)) (hG d) O W hO).trans
    (wp_mono frame _ _ fun _ => task_post (q := 0)))

/-- A core's share is its tiles' together. -/
theorem vecSplit : (K (F := F)).VecSplit' (P m) 0 := by
  intro d c
  show (bigSep (Finset.univ : Finset (Fin 16)) fun i => givenTo d (cells m d) (m (oLoc d)) c i) ⊢ |={Set.univ}=> iprop(
      (bigSep (Finset.univ : Finset (Fin 16)) fun i => givenTo d (cells m d) (m (oLoc d)) c i)
      ∗ ((bigSep (Finset.univ : Finset (Fin 16)) fun i => givenTo d (cells m d) (outOf (cells m d)) c i)
          -∗ bigSep (Finset.univ : Finset (Fin 16)) fun i => givenTo d (cells m d) (outOf (cells m d)) c i))
  iintro H; imodintro
  isplitl [H]; · iexact H
  iintro H; iexact H

/-! ## The launch's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The launch's ghost state is the handshakes'; the transfers' counters start at one, and the tiles are given nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host's program -/

/-- What the call hands to the two cores is the cells and the result. -/
theorem st0_eq (d : Dev nD) : (bigSep Finset.univ fun c : Fin ((K (F := F)).nCore 0) => (P m).st 0 d c)
    = (iprop((gLoc d ↦{fullShare} cells m d) ∗ oLoc d ↦{fullShare} m (oLoc d)) : sProp 𝕄) :=
  (deal_all d (cells m d) (m (oLoc d))).symm
/-- What comes back is the cells and the counts. -/
theorem dn0_eq (d : Dev nD) : (bigSep Finset.univ fun c : Fin ((K (F := F)).nCore 0) => (P m).dn 0 d c)
    = (iprop((gLoc d ↦{fullShare} cells m d) ∗ oLoc d ↦{fullShare} outOf (cells m d)) : sProp 𝕄) :=
  (deal_all d (cells m d) (outOf (cells m d))).symm

/-- What is left at the end on device `d`: the argument as it was, the result at the counts. -/
abbrev FIN (d : Dev nD) : sProp 𝕄 := iprop(((d, rArg) ↦{fullShare} m (d, rArg)) ∗ oLoc d ↦{fullShare} outOf (cells m d))

/-- The arrays after the host's four operations: the argument, the cells, the result, and three the call does not take. -/
theorem held_V4 (d : Dev nD) : (held (T d) hostBufs (V4 m d) : sProp 𝕄)
    ⊢ iprop(((d, rArg) ↦{fullShare} m (d, rArg)) ∗ (gLoc d ↦{fullShare} cells m d) ∗ oLoc d ↦{fullShare} m (oLoc d)) := by
  rw [held_host, V4_arg, V4_out]
  iintro ⟨Ha, -, -, -, Hg, Ho⟩
  isplitl [Ha]; · iexact Ha
  isplitl [Hg]; · iexact Hg
  iexact Ho

/-- The host's program on device `d`: the four operations, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (wp_hlo_within 𝒱 (SparseCore.T d) none Set.univ (op := hostOp0) (S := hostBufs) hostOp0_sub (V := V0 m d)) $$ [Hb Hh]
  · isplitl [Hb]; · iexact Hb
    iexact Hh
  iintro ⟨Hb, Hh⟩
  rw [wp_ret]; imodintro
  iapply (wp_hlo_within 𝒱 (SparseCore.T d) none Set.univ (op := hostOp1) (S := hostBufs) hostOp1_sub (V := V1 m d)) $$ [Hb Hh]
  · isplitl [Hb]; · iexact Hb
    iexact Hh
  iintro ⟨Hb, Hh⟩
  rw [wp_ret]; imodintro
  iapply (wp_hlo_within 𝒱 (SparseCore.T d) none Set.univ (op := hostOp2) (S := hostBufs) hostOp2_sub (V := V2 m d)) $$ [Hb Hh]
  · isplitl [Hb]; · iexact Hb
    iexact Hh
  iintro ⟨Hb, Hh⟩
  rw [wp_ret]; imodintro
  iapply (wp_hlo_within 𝒱 (SparseCore.T d) none Set.univ (op := hostOp3) (S := hostBufs) hostOp3_sub (V := V3 m d)) $$ [Hb Hh]
  · isplitl [Hb]; · iexact Hb
    iexact Hh
  iintro ⟨Hb, Hh⟩
  rw [wp_ret]; imodintro
  ihave Hh' := (held_V4 m d) $$ Hh
  icases Hh' with ⟨Ha, Hg, Ho⟩
  iapply ((K (F := F)).wp_run (D (F := F)) 𝒱 (EH := EH) (P := P m) κ d 0) $$ [Hst Ha Hg Ho Hb Hts]
  isplitr; · iexact Hctx
  isplitl [Hst]; · iexact Hst
  isplitl [Hg Ho]
  · rw [st0_eq]
    isplitl [Hg]; · iexact Hg
    iexact Ho
  iintro ⟨Hst, Hdn⟩
  ihave Hdn' := (Entails.of_eq (dn0_eq m d)) $$ Hdn
  icases Hdn' with ⟨-, Ho⟩
  imodintro
  isplitl [Hst]; · iexact Hst
  isplitl [Ha Ho]
  · isplitl [Ha]; · iexact Ha
    iexact Ho
  isplitl [Hb] <;> iassumption

/-! ## The end -/

def fq (d : Dev nD) (s' : Phys nD τ sig (Elt F)) : Prop := s'.mem.mem (d, rArg) = m (d, rArg) ∧ s'.mem.mem (oLoc d) = outOf (cells m d)

/-- What is held at the end is in memory. -/
theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := (d, rArg)) (I := Finset.univ) (q := fullShare) (f := m (d, rArg)))) $$ [HSI Hi]
  · isplitl [HSI] <;> iassumption
  icases H with ⟨%h1, HSI, -⟩
  ihave H := (SI_pointsTo_agree (st := s') (ℓ := oLoc d) (I := Finset.univ) (q := fullShare) (f := outOf (cells m d))) $$ [HSI Hx]
  · isplitl [HSI] <;> iassumption
  icases H with %h2
  ipureintro; exact ⟨funext fun i => h1 i (Finset.mem_univ i), funext fun i => h2 i (Finset.mem_univ i)⟩

/-- At the end every device has its argument as it was and the counts for result, and no semaphore holds anything. -/
def QC : PUnit × MemSt nD τ sig (Elt F) → Prop := fun r =>
  (∀ d : Dev nD, r.2.mem (d, rArg) = m (d, rArg) ∧ r.2.mem (oLoc d) = outOf (cells m d)) ∧ r.2.sem = fun _ => 0

/-- From words below eight the program runs to the end and leaves the counts. -/
theorem run_main [∀ e, Nonempty (Elt F e)] (hG : ∀ d i, (cells m d i).toNat < 8) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hG)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Hist

end
-- ==== Proof.HostValue.lean ====
/-
  What the host's four operations leave in the array the tiles read: cell `k` of samples `128 w …` is the argument's,
  in the order the tiles take it.
-/
module

public import proofs.«01_k».proof.Proof.Launch
public import Idealize.ShloMosaic.Lib.Pipeline.Value

@[expose] public section

noncomputable section

namespace Cert.Proof.Hist

open Cert.KernelIdeal Cert.KernelIdeal.Gen
open Idealize.ShloMosaic Idealize.ShloMosaic.ValueIdx

variable {F : FTy → Type} [FloatOps F] (m : (ℓ : Loc nD τ sig) → Buf (Elt F) ℓ) (d : Dev nD)

/-- Field `f` of cell `k` of sample `n`, in the argument. -/
def gridIx (n k : Fin 4096) (f : Fin 2) : (⟨4, ![4096, 64, 64, 2]⟩ : Shape).Idx :=
  ix4 n (⟨k.val / 64, by omega⟩ : Fin 64) (⟨k.val % 64, by omega⟩ : Fin 64) f

/-- The number of cell `k` of sample `n`. -/
def gridId (x : (⟨4, ![4096, 64, 64, 2]⟩ : Shape).Idx → BitVec 32) (n k : Fin 4096) : ℕ :=
  8 * (x (gridIx n k 0)).toNat + (x (gridIx n k 1)).toNat

/-- Sample `s` of tile `w`. -/
def sampleOf (w : Fin 32) (s : Fin 128) : Fin 4096 := ⟨128 * w.val + s.val, by omega⟩

/-- The argument. -/
abbrev argOf : (⟨4, ![4096, 64, 64, 2]⟩ : Shape).Idx → BitVec 32 := m (d, rArg)

/-- After the first transpose the sample is the last axis. -/
theorem v1_apply (y : Fin 64) (z : Fin 64) (f : Fin 2) (n : Fin 4096) :
    (V1 m d r0 : S64x64x2x4096.Idx → BitVec 32) (ix4 y z f n) = argOf m d (ix4 n y z f) := by
  have e : V1 m d r0 = transpose S64x64x2x4096 [1,2,3,0] (argOf m d) transposes_S4096x64x64x2_S64x64x2x4096_1_2_3_0 :=
    StableHlo.unary_result' _ _ _ _
  rw [e]
  exact transpose_apply _ _ _ _ _ fun b => match b with
    | ⟨0, _⟩ => rfl | ⟨1, _⟩ => rfl | ⟨2, _⟩ => rfl | ⟨3, _⟩ => rfl

/-- After the first reshape the sample is a tile and one of its 128. -/
theorem v2_apply (y : Fin 64) (z : Fin 64) (f : Fin 2) (w : Fin 32) (s : Fin 128) :
    (V2 m d r1 : S64x64x2x32x128.Idx → BitVec 32) (ix5 y z f w s) = argOf m d (ix4 (sampleOf w s) y z f) := by
  have e : V2 m d r1 = shapeCast S64x64x2x32x128 (V1 m d r0 : S64x64x2x4096.Idx → BitVec 32) shapeCasts_S64x64x2x4096_S64x64x2x32x128 :=
    StableHlo.reshape_result' _ _ _ _ _
  rw [e, ← v1_apply]
  refine shapeCast_apply _ _ _ _ ?_
  show ((⟨4, ![64, 64, 2, 4096]⟩ : Shape).rowMajor (ix4 y z f (sampleOf w s))).val = ((⟨5, ![64, 64, 2, 32, 128]⟩ : Shape).rowMajor (ix5 y z f w s)).val
  rw [Shape.rowMajor_val_four, Shape.rowMajor_val_five]
  show ((y.val * 64 + z.val) * 2 + f.val) * 4096 + (128 * w.val + s.val) = (((y.val * 64 + z.val) * 2 + f.val) * 32 + w.val) * 128 + s.val
  omega

/-- After the second transpose the tile stands before the field. -/
theorem v3_apply (y : Fin 64) (z : Fin 64) (w : Fin 32) (f : Fin 2) (s : Fin 128) :
    (V3 m d r2 : S64x64x32x2x128.Idx → BitVec 32) (ix5 y z w f s) = argOf m d (ix4 (sampleOf w s) y z f) := by
  have e : V3 m d r2 = transpose S64x64x32x2x128 [0,1,3,2,4] (V2 m d r1 : S64x64x2x32x128.Idx → BitVec 32) transposes_S64x64x2x32x128_S64x64x32x2x128_0_1_3_2_4 :=
    StableHlo.unary_result' _ _ _ _
  rw [e, ← v2_apply]
  exact transpose_apply _ _ _ _ _ fun b => match b with
    | ⟨0, _⟩ => rfl | ⟨1, _⟩ => rfl | ⟨2, _⟩ => rfl | ⟨3, _⟩ => rfl | ⟨4, _⟩ => rfl

/-- A word of the cells is the argument's word for that cell, sample and field. -/
theorem cells_apply (k : Fin 4096) (w : Fin 32) (f : Fin 2) (s : Fin 128) :
    cells m d (ix4 k w f s) = argOf m d (gridIx (sampleOf w s) k f) := by
  have e : cells m d = shapeCast S4096x32x2x128 (V3 m d r2 : S64x64x32x2x128.Idx → BitVec 32) shapeCasts_S64x64x32x2x128_S4096x32x2x128 :=
    StableHlo.reshape_result' _ _ _ _ _
  unfold gridIx
  rw [e, ← v3_apply]
  refine shapeCast_apply _ _ _ _ ?_
  show ((⟨5, ![64, 64, 32, 2, 128]⟩ : Shape).rowMajor (ix5 (⟨k.val / 64, by omega⟩ : Fin 64) (⟨k.val % 64, by omega⟩ : Fin 64) w f s)).val
    = ((⟨4, ![4096, 32, 2, 128]⟩ : Shape).rowMajor (ix4 k w f s)).val
  rw [Shape.rowMajor_val_four, Shape.rowMajor_val_five]
  show (((k.val / 64 * 64 + k.val % 64) * 32 + w.val) * 2 + f.val) * 128 + s.val = ((k.val * 32 + w.val) * 2 + f.val) * 128 + s.val
  omega

/-- A cell's number as the tiles compute it is the argument's. -/
theorem idOf_cells (w : Fin 32) (s : Fin 128) (k : Fin 4096) :
    idOf (cells m d) w s k = gridId (argOf m d) (sampleOf w s) k := by
  unfold idOf gridId
  rw [cells_apply, cells_apply]

/-- Words of the argument below eight make words of the cells below eight. -/
theorem cells_lt (h : ∀ j, (argOf m d j).toNat < 8) (i) : (cells m d i).toNat < 8 := by
  rw [eq_ix4 i]
  exact (congrArg BitVec.toNat (cells_apply m d (i 0) (i 1) (i 2) (i 3))).trans_lt (h _)

/-- The result's element: how many of the sample's cells have that number. -/
theorem outOf_cells (x : S4096x128.Idx) :
    outOf (cells m d) x = BitVec.ofNat 32 (Finset.univ.filter fun k : Fin 4096 => gridId (argOf m d) (x 0) k = (x 1).val).card := by
  unfold outOf hits
  congr 2
  refine Finset.filter_congr fun k _ => ?_
  rw [idOf_cells]
  have hn : sampleOf ⟨(x 0).val / 128, by have := idx2_lt0 x; omega⟩ ⟨(x 0).val % 128, by omega⟩ = x 0 := Fin.ext (by
    show 128 * ((x 0).val / 128) + (x 0).val % 128 = (x 0).val; omega)
  rw [hn]
  exact ⟨fun h => h.2, fun h => ⟨k.isLt, h⟩⟩

end Cert.Proof.Hist

end
-- ==== Proof.RefValue.lean ====
/-
  What the reference computes: element `(n, v)` is how many of sample `n`'s cells have number `v`.
-/
module

public import proofs.«01_k».proof.Proof.HostValue
public import proofs.«01_k».proof.Proof.Gen.ReferenceIdeal.Read
public import Idealize.ShloMosaic.Lib.IndicatorCount

@[expose] public section

noncomputable section

namespace Cert.Proof.Hist

open Cert.ReferenceIdeal Cert.ReferenceIdeal.Gen Cert.ReferenceIdeal.Read
open Idealize.ShloMosaic Idealize.ShloMosaic.ValueIdx

variable {F : FTy → Type} [FloatOps F] (x0 : (⟨4, ![4096, 64, 64, 2]⟩ : Shape).Idx → BitVec 32)

/-- Where the reference reads, for cell `k` of sample `n` against number `v`, the first field. -/
theorem first_index (n k : Fin 4096) (v : Fin 128) :
    idx_main_v0 (idx_main_v1 (idx_main_v7 (idx_main_v8 (idx_main_v11 (ix3 n k v))))) = gridIx n k 0 := by
  refine funext fun a => Fin.ext ?_
  have hn := n.isLt; have hk := k.isLt
  match a with
  | ⟨0, _⟩ =>
    show (((n.val * 4096 + k.val) / 4096 * 64 + (n.val * 4096 + k.val) / 64 % 64) * 64 + (n.val * 4096 + k.val) % 64) / 4096 = n.val
    omega
  | ⟨1, _⟩ =>
    show (((n.val * 4096 + k.val) / 4096 * 64 + (n.val * 4096 + k.val) / 64 % 64) * 64 + (n.val * 4096 + k.val) % 64) / 64 % 64 = k.val / 64
    omega
  | ⟨2, _⟩ =>
    show (((n.val * 4096 + k.val) / 4096 * 64 + (n.val * 4096 + k.val) / 64 % 64) * 64 + (n.val * 4096 + k.val) % 64) / 1 % 64 = k.val % 64
    omega
  | ⟨3, _⟩ => rfl

/-- And the second. -/
theorem second_index (n k : Fin 4096) (v : Fin 128) :
    idx_main_v4 (idx_main_v5 (idx_main_v7 (idx_main_v8 (idx_main_v11 (ix3 n k v))))) = gridIx n k 1 := by
  refine funext fun a => Fin.ext ?_
  have hn := n.isLt; have hk := k.isLt
  match a with
  | ⟨0, _⟩ =>
    show (((n.val * 4096 + k.val) / 4096 * 64 + (n.val * 4096 + k.val) / 64 % 64) * 64 + (n.val * 4096 + k.val) % 64) / 4096 = n.val
    omega
  | ⟨1, _⟩ =>
    show (((n.val * 4096 + k.val) / 4096 * 64 + (n.val * 4096 + k.val) / 64 % 64) * 64 + (n.val * 4096 + k.val) % 64) / 64 % 64 = k.val / 64
    omega
  | ⟨2, _⟩ =>
    show (((n.val * 4096 + k.val) / 4096 * 64 + (n.val * 4096 + k.val) / 64 % 64) * 64 + (n.val * 4096 + k.val) % 64) / 1 % 64 = k.val % 64
    omega
  | ⟨3, _⟩ => rfl

/-- Two words below eight make a number below 64, and no product or sum on the way overflows. -/
theorem word_number (a b : BitVec 32) (ha : a.toNat < 8) (hb : b.toNat < 8) (v : Fin 128) :
    IntOp.cmpi .eq (IntOp.addi (IntOp.muli a 8#32) b) (BitVec.ofNat 32 v.val) = 1#1 ↔ 8 * a.toNat + b.toNat = v.val := by
  have hv := v.isLt
  have e : (a * 8#32 + b).toNat = 8 * a.toNat + b.toNat := by
    rw [BitVec.toNat_add, BitVec.toNat_mul, BitVec.toNat_ofNat]; omega
  have ev : (BitVec.ofNat 32 v.val).toNat = v.val := by rw [BitVec.toNat_ofNat]; omega
  show BitVec.ofBool (decide (a * 8#32 + b = BitVec.ofNat 32 v.val)) = 1#1 ↔ _
  rw [← e]
  constructor
  · intro h
    by_cases hc : a * 8#32 + b = BitVec.ofNat 32 v.val
    · exact (congrArg BitVec.toNat hc).trans ev
    · rw [decide_eq_false hc] at h; exact absurd h (by decide)
  · intro h
    rw [decide_eq_true (BitVec.eq_of_toNat_eq (h.trans ev.symm))]; rfl

/-- The reference compares cell `k` of sample `n` with number `v`. -/
theorem compare_apply (hx : ∀ j, (x0 j).toNat < 8) (n k : Fin 4096) (v : Fin 128) :
    val_main_v13 (F := F) x0 (ix3 n k v) = 1#1 ↔ gridId x0 n k = v.val := by
  rw [val_main_v13_apply, val_main_v11_apply, val_main_v8_apply, val_main_v7_apply, val_main_v6_apply, val_main_v3_apply,
    val_main_v1_apply, val_main_v0_apply, val_main_v5_apply, val_main_v4_apply, val_main_v2_apply, val_main_c_apply,
    val_main_v12_apply, val_main_v10_apply, val_main_v9_apply, first_index, second_index]
  exact word_number _ _ (hx _) (hx _) v

/-- An index is summed into `j` when its sample and its number are `j`'s. -/
theorem drop_iff (i : S4096x4096x128.Idx) (j : S4096x128.Idx) :
    reducesTo_S4096x4096x128_S4096x128_d1.drop i = j ↔ (i 0).val = (j 0).val ∧ (i 2).val = (j 1).val := by
  have h0 := reducesTo_S4096x4096x128_S4096x128_d1.drop_apply_val_of_eq i 0 0
  have h1 := reducesTo_S4096x4096x128_S4096x128_d1.drop_apply_val_of_eq i 1 2
  constructor
  · rintro rfl; exact ⟨h0.symm, h1.symm⟩
  · intro h
    refine funext fun a => Fin.ext ?_
    match a with
    | ⟨0, _⟩ => exact h0.trans h.1
    | ⟨1, _⟩ => exact h1.trans h.2

/-- The reference's element: how many of the sample's cells have that number. -/
theorem ref_apply (hx : ∀ j, (x0 j).toNat < 8) (j : S4096x128.Idx) :
    val_main_v15 (F := F) x0 j = BitVec.ofNat 32 (Finset.univ.filter fun k : Fin 4096 => gridId x0 (j 0) k = (j 1).val).card := by
  unfold val_main_v15 Host.reduce
  rw [Shape.foldl_filter_rowMajor_eq_fold]
  refine (IndicatorCount.fold_addi_setWidth_eq_card (w := 32) (fun i => val_main_v13 (F := F) x0 i) _).trans ?_
  refine congrArg (BitVec.ofNat 32) ?_
  rw [Finset.filter_filter]
  symm
  refine Finset.card_bij (fun k _ => (ix3 (j 0) k (j 1) : S4096x4096x128.Idx)) ?_ ?_ ?_
  · intro k hk
    refine Finset.mem_filter.mpr ⟨Finset.mem_univ _, (drop_iff _ j).mpr ⟨rfl, rfl⟩, ?_⟩
    exact (compare_apply x0 hx (j 0) k (j 1)).mpr (Finset.mem_filter.mp hk).2
  · intro k _ k' _ e
    exact congrFun e 1
  · intro i hi
    obtain ⟨-, hd, hc⟩ := Finset.mem_filter.mp hi
    obtain ⟨d0, d2⟩ := (drop_iff i j).mp hd
    have ei : (ix3 (j 0) (i 1) (j 1) : S4096x4096x128.Idx) = i := by
      refine funext fun a => Fin.ext ?_
      match a with
      | ⟨0, _⟩ => exact d0.symm
      | ⟨1, _⟩ => rfl
      | ⟨2, _⟩ => exact d2.symm
    refine ⟨i 1, Finset.mem_filter.mpr ⟨Finset.mem_univ _, ?_⟩, ei⟩
    exact (compare_apply x0 hx (j 0) (i 1) (j 1)).mp ((congrArg _ ei).trans hc)

end Cert.Proof.Hist

end
-- ==== Proof.lean ====
/-
  The five claims, from the lemmas of the modules.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.RefValue
public import Idealize.ShloMosaic.Adequacy
public import Idealize.ShloMosaic.Init

@[expose] public section

noncomputable section

namespace Cert.Proof

open Idealize.ShloMosaic Idealize.SL.Sem

/-- Words the precondition lets through are below eight. -/
theorem word_lt_eight (v : BitVec 32) (e : IntOp.andi (IntOp.cmpi .sge v 0#32) (IntOp.cmpi .slt v 8#32) = 1#1) : v.toNat < 8 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Both bits of a conjunction that is one are one. -/
theorem andi_eq_one : ∀ a b : BitVec 1, IntOp.andi a b = 1#1 → a = 1#1 ∧ b = 1#1 := by decide

/-- A conjunction over a set that is one has every member one. -/
theorem fold_andi_eq_one {ι : Type} (p : ι → BitVec 1) (S : Finset ι) (h : S.fold IntOp.andi 1#1 p = 1#1) : ∀ k ∈ S, p k = 1#1 := by
  classical
  induction S using Finset.induction_on with
  | empty => exact fun k hk => absurd hk (Finset.notMem_empty k)
  | insert a S ha ih =>
    rw [Finset.fold_insert ha] at h
    obtain ⟨h1, h2⟩ := andi_eq_one _ _ h
    exact fun k hk => (Finset.mem_insert.mp hk).elim (fun e => e ▸ h1) (ih h2 k)

/-- The precondition: every word of the argument is below eight. -/
theorem arg_lt {F : FTy → Type} [FloatOps F] (x : (⟨4, ![4096, 64, 64, 2]⟩ : Shape).Idx → BitVec 32)
    (h : Cert.Pre_in_range.fn (F := F) x = fun _ => 1#1) (j) : (x j).toNat < 8 := by
  have h0 := congrFun h (fun a => a.elim0)
  unfold Cert.Pre_in_range.fn at h0
  dsimp only at h0
  unfold Host.reduce at h0
  rw [Shape.foldl_filter_rowMajor_eq_fold] at h0
  exact word_lt_eight _ (fold_andi_eq_one _ _ h0 j (Finset.mem_filter.mpr ⟨Finset.mem_univ _, funext fun a => a.elim0⟩))

/-- The counts are the reference's result. -/
theorem counts_eq_ref (m : (ℓ : Loc Cert.KernelIdeal.nD Cert.KernelIdeal.τ Cert.KernelIdeal.sig) → Buf (Elt Ideal) ℓ) (d : Dev Cert.KernelIdeal.nD)
    (h : ∀ j, (Hist.argOf m d j).toNat < 8) :
    Hist.outOf (Hist.cells m d) = Cert.ReferenceIdeal.Read.val_main_v15 (F := Ideal) (Hist.argOf m d) :=
  funext fun x => (Hist.outOf_cells m d x).trans (Hist.ref_apply (Hist.argOf m d) h x).symm

/-- The kernel's frame: its run, the counts dropped. -/
theorem frame_kernel : Cert.quiescent_Kernel := fun m ρ hpre =>
  (θ_run Cert.KernelIdeal.defs _ _).mono (fun _ h => ⟨fun c => (h.1 c).1, h.2⟩)
    (Hist.run_main (F := Bits) m ρ fun d => Hist.cells_lt m d (arg_lt (F := Bits) _ (hpre d)))

/-- The ideal kernel's frame, likewise. -/
theorem frame_ideal : Cert.quiescent_KernelIdeal := fun m ρ hpre =>
  (θ_run Cert.KernelIdeal.defs _ _).mono (fun _ h => ⟨fun c => (h.1 c).1, h.2⟩)
    (Hist.run_main (F := Ideal) m ρ fun d => Hist.cells_lt m d (arg_lt (F := Ideal) _ (hpre d)))

/-- The reference's frame: its operations write no argument, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same counts: the reference's term of the argument. -/
theorem equal_results : Cert.algebraic_KernelIdeal_ReferenceIdeal := by
  intro m ρ m' ρ' hpre hagree
  have hx : ∀ d j, (Hist.argOf m d j).toNat < 8 := fun d => arg_lt (F := Ideal) _ (hpre d)
  refine ⟨fun c => Hist.outOf (Hist.cells m c),
    (θ_run Cert.KernelIdeal.defs _ _).mono (fun _ h c => ⟨(h.1 c).2, (h.1 c).1⟩)
      (Hist.run_main (F := Ideal) m ρ fun d => Hist.cells_lt m d (hx d)), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq (F := Ideal) _).trans ?_
  exact (congrArg (Cert.ReferenceIdeal.Read.val_main_v15 (F := Ideal)) (hagree c)).trans (counts_eq_ref m c (hx c)).symm

/-- The five claims. -/
theorem claim : Cert.Claim :=
  ⟨Cert.Kernel.Gen.facts, Cert.KernelIdeal.Gen.facts, Cert.ReferenceIdeal.Gen.facts, Cert.Pre_in_range.Gen.facts,
    frame_kernel, frame_ideal, frame_reference, trivial, equal_results⟩

end Cert.Proof

end
